-- ==== Defs.lean ====
def Pre_Kernel [hPre_lens_in_range : Cert.Pre_lens_in_range.Facts] (m : (ℓ : Loc Cert.Kernel.nD Cert.Kernel.τ Cert.Kernel.sig) → Buf (Elt Bits) ℓ) : Prop :=
  ∀ c : Dev Cert.Kernel.nD,
    (Cert.Pre_lens_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_lens_in_range : Cert.Pre_lens_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_lens_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lens_in_range [hPre_lens_in_range : Cert.Pre_lens_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lens_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_lens_in_range : Cert.Pre_lens_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_lens_in_range : Cert.Pre_lens_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_lens_in_range [hReferenceIdeal : Cert.ReferenceIdeal.Facts] [hPre_lens_in_range : Cert.Pre_lens_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lens_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_lens_in_range : Cert.Pre_lens_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_lens_in_range : Cert.Pre_lens_in_range.Facts),
    quiescent_Kernel (hKernel := hKernel) (hPre_lens_in_range := hPre_lens_in_range)
    ∧ quiescent_KernelIdeal (hKernelIdeal := hKernelIdeal) (hPre_lens_in_range := hPre_lens_in_range)
    ∧ quiescent_ReferenceIdeal (hReferenceIdeal := hReferenceIdeal)
    ∧ quiescent_ReferenceIdeal_pre_lens_in_range (hReferenceIdeal := hReferenceIdeal) (hPre_lens_in_range := hPre_lens_in_range)
    ∧ preserves_Kernel_KernelIdeal
    ∧ algebraic_KernelIdeal_ReferenceIdeal (hKernelIdeal := hKernelIdeal) (hReferenceIdeal := hReferenceIdeal) (hPre_lens_in_range := hPre_lens_in_range)
-- ==== Pre_lens_in_range.lean ====
abbrev S16384x1024 : Shape := ⟨2, ![16384, 1024]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S16384x1024 .f32) (main_arg1 : IVec S16 32) : IVec S_ 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 32 := constantI S_ 32 1024#32
  let main_v2 : IVec S16 32 := broadcastInDim S16 ![] bcast_S_S16 main_c_0
  let main_v3 : IVec S16 1 := cmpi .slt main_arg1 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  main_v5
-- ==== Kernel.lean ====
abbrev S16384x1024 : Shape := ⟨2, ![16384, 1024]⟩
abbrev S16 : Shape := ⟨1, ![16]⟩
abbrev S16x1024 : Shape := ⟨2, ![16, 1024]⟩
abbrev S_ : Shape := ⟨0, ![]⟩
abbrev S1x1024 : Shape := ⟨2, ![1, 1024]⟩
abbrev S1 : Shape := ⟨1, ![1]⟩

abbrev nBuf : Table → Nat
  | .hbm => 3
  | .local .scScalar .smem => 1
  | _ => 0

abbrev bufTy : (tb : Table) → Fin (nBuf tb) → BufTy
  | .hbm, ⟨0, _⟩ => ⟨S16384x1024, .f32⟩
  | .hbm, ⟨1, _⟩ => ⟨S16, .i32⟩
  | .hbm, ⟨2, _⟩ => ⟨S16x1024, .f32⟩
  | .local .scScalar .smem, ⟨0, _⟩ => ⟨S16, .i32⟩
  | _, _ => ⟨S16384x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scs : Ref sig .scScalar := ⟨.hbm, 1, rfl⟩
abbrev main_arg0_scs : Ref sig .scScalar := ⟨.hbm, 0, rfl⟩
abbrev main_v0_scs : Ref sig .scScalar := ⟨.hbm, 2, rfl⟩
abbrev cc0_scratch0 : Ref sig .scScalar := ⟨.smem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def k0_off1 (v3 : BitVec 32) : Fin 2 → Nat :=
  let c0_i32_5 : BitVec 32 := 0#32
  ![v3.toNat, 0]

def k0_off2 (v3 : BitVec 32) (v7 : BitVec 32) : Fin 2 → Nat :=
  let v8 : BitVec 32 := Scalar.addi v3 v7
  let c0_i32_8 : BitVec 32 := 0#32
  ![v8.toNat, 0]

def k0_off3 (v3 : BitVec 32) (v7 : BitVec 32) (v12 : BitVec 32) : Fin 2 → Nat :=
  let v8 : BitVec 32 := Scalar.addi v3 v7
  let v13 : BitVec 32 := Scalar.addi v8 v12
  let c0_i32_11 : BitVec 32 := 0#32
  ![v13.toNat, 0]

def k0_off4 (v3 : BitVec 32) (v7 : BitVec 32) (v12 : BitVec 32) (v17 : BitVec 32) : Fin 2 → Nat :=
  let v8 : BitVec 32 := Scalar.addi v3 v7
  let v13 : BitVec 32 := Scalar.addi v8 v12
  let v18 : BitVec 32 := Scalar.addi v13 v17
  let c0_i32_14 : BitVec 32 := 0#32
  ![v18.toNat, 0]

def k0_off5 (v3 : BitVec 32) (v7 : BitVec 32) (v12 : BitVec 32) (v17 : BitVec 32) (v22 : BitVec 32) : Fin 2 → Nat :=
  let v8 : BitVec 32 := Scalar.addi v3 v7
  let v13 : BitVec 32 := Scalar.addi v8 v12
  let v18 : BitVec 32 := Scalar.addi v13 v17
  let v23 : BitVec 32 := Scalar.addi v18 v22
  let c0_i32_17 : BitVec 32 := 0#32
  ![v23.toNat, 0]

def k0_off6 (v3 : BitVec 32) (v7 : BitVec 32) (v12 : BitVec 32) (v17 : BitVec 32) (v22 : BitVec 32) (v27 : BitVec 32) : Fin 2 → Nat :=
  let v8 : BitVec 32 := Scalar.addi v3 v7
  let v13 : BitVec 32 := Scalar.addi v8 v12
  let v18 : BitVec 32 := Scalar.addi v13 v17
  let v23 : BitVec 32 := Scalar.addi v18 v22
  let v28 : BitVec 32 := Scalar.addi v23 v27
  let c0_i32_20 : BitVec 32 := 0#32
  ![v28.toNat, 0]

def k0_off7 (v3 : BitVec 32) (v7 : BitVec 32) (v12 : BitVec 32) (v17 : BitVec 32) (v22 : BitVec 32) (v27 : BitVec 32) (v32 : BitVec 32) : Fin 2 → Nat :=
  let v8 : BitVec 32 := Scalar.addi v3 v7
  let v13 : BitVec 32 := Scalar.addi v8 v12
  let v18 : BitVec 32 := Scalar.addi v13 v17
  let v23 : BitVec 32 := Scalar.addi v18 v22
  let v28 : BitVec 32 := Scalar.addi v23 v27
  let v33 : BitVec 32 := Scalar.addi v28 v32
  let c0_i32_23 : BitVec 32 := 0#32
  ![v33.toNat, 0]

def k0_off8 (v3 : BitVec 32) (v7 : BitVec 32) (v12 : BitVec 32) (v17 : BitVec 32) (v22 : BitVec 32) (v27 : BitVec 32) (v32 : BitVec 32) (v37 : BitVec 32) : Fin 2 → Nat :=
  let v8 : BitVec 32 := Scalar.addi v3 v7
  let v13 : BitVec 32 := Scalar.addi v8 v12
  let v18 : BitVec 32 := Scalar.addi v13 v17
  let v23 : BitVec 32 := Scalar.addi v18 v22
  let v28 : BitVec 32 := Scalar.addi v23 v27
  let v33 : BitVec 32 := Scalar.addi v28 v32
  let v38 : BitVec 32 := Scalar.addi v33 v37
  let c0_i32_26 : BitVec 32 := 0#32
  ![v38.toNat, 0]

def k0_off9 (v3 : BitVec 32) (v7 : BitVec 32) (v12 : BitVec 32) (v17 : BitVec 32) (v22 : BitVec 32) (v27 : BitVec 32) (v32 : BitVec 32) (v37 : BitVec 32) (v42 : BitVec 32) : Fin 2 → Nat :=
  let v8 : BitVec 32 := Scalar.addi v3 v7
  let v13 : BitVec 32 := Scalar.addi v8 v12
  let v18 : BitVec 32 := Scalar.addi v13 v17
  let v23 : BitVec 32 := Scalar.addi v18 v22
  let v28 : BitVec 32 := Scalar.addi v23 v27
  let v33 : BitVec 32 := Scalar.addi v28 v32
  let v38 : BitVec 32 := Scalar.addi v33 v37
  let v43 : BitVec 32 := Scalar.addi v38 v42
  let c0_i32_29 : BitVec 32 := 0#32
  ![v43.toNat, 0]

def k0_off10 (v3 : BitVec 32) (v7 : BitVec 32) (v12 : BitVec 32) (v17 : BitVec 32) (v22 : BitVec 32) (v27 : BitVec 32) (v32 : BitVec 32) (v37 : BitVec 32) (v42 : BitVec 32) (v47 : BitVec 32) : Fin 2 → Nat :=
  let v8 : BitVec 32 := Scalar.addi v3 v7
  let v13 : BitVec 32 := Scalar.addi v8 v12
  let v18 : BitVec 32 := Scalar.addi v13 v17
  let v23 : BitVec 32 := Scalar.addi v18 v22
  let v28 : BitVec 32 := Scalar.addi v23 v27
  let v33 : BitVec 32 := Scalar.addi v28 v32
  let v38 : BitVec 32 := Scalar.addi v33 v37
  let v43 : BitVec 32 := Scalar.addi v38 v42
  let v48 : BitVec 32 := Scalar.addi v43 v47
  let c0_i32_32 : BitVec 32 := 0#32
  ![v48.toNat, 0]

def k0_off11 (v3 : BitVec 32) (v7 : BitVec 32) (v12 : BitVec 32) (v17 : BitVec 32) (v22 : BitVec 32) (v27 : BitVec 32) (v32 : BitVec 32) (v37 : BitVec 32) (v42 : BitVec 32) (v47 : BitVec 32) (v52 : BitVec 32) : Fin 2 → Nat :=
  let v8 : BitVec 32 := Scalar.addi v3 v7
  let v13 : BitVec 32 := Scalar.addi v8 v12
  let v18 : BitVec 32 := Scalar.addi v13 v17
  let v23 : BitVec 32 := Scalar.addi v18 v22
  let v28 : BitVec 32 := Scalar.addi v23 v27
  let v33 : BitVec 32 := Scalar.addi v28 v32
  let v38 : BitVec 32 := Scalar.addi v33 v37
  let v43 : BitVec 32 := Scalar.addi v38 v42
  let v48 : BitVec 32 := Scalar.addi v43 v47
  let v53 : BitVec 32 := Scalar.addi v48 v52
  let c0_i32_35 : BitVec 32 := 0#32
  ![v53.toNat, 0]

def k0_off12 (v3 : BitVec 32) (v7 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) : Fin 2 → Nat :=
  let v8 : BitVec 32 := Scalar.addi v3 v7
  let v13 : BitVec 32 := Scalar.addi v8 v12
  let v18 : BitVec 32 := Scalar.addi v13 v17
  let v23 : BitVec 32 := Scalar.addi v18 v22
  let v28 : BitVec 32 := Scalar.addi v23 v27
  let v33 : BitVec 32 := Scalar.addi v28 v32
  let v38 : BitVec 32 := Scalar.addi v33 v37
  let v43 : BitVec 32 := Scalar.addi v38 v42
  let v48 : BitVec 32 := Scalar.addi v43 v47
  let v53 : BitVec 32 := Scalar.addi v48 v52
  let v58 : BitVec 32 := Scalar.addi v53 v57
  let c0_i32_38 : BitVec 32 := 0#32
  ![v58.toNat, 0]

def k0_off13 (v3 : BitVec 32) (v7 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) : Fin 2 → Nat :=
  let v8 : BitVec 32 := Scalar.addi v3 v7
  let v13 : BitVec 32 := Scalar.addi v8 v12
  let v18 : BitVec 32 := Scalar.addi v13 v17
  let v23 : BitVec 32 := Scalar.addi v18 v22
  let v28 : BitVec 32 := Scalar.addi v23 v27
  let v33 : BitVec 32 := Scalar.addi v28 v32
  let v38 : BitVec 32 := Scalar.addi v33 v37
  let v43 : BitVec 32 := Scalar.addi v38 v42
  let v48 : BitVec 32 := Scalar.addi v43 v47
  let v53 : BitVec 32 := Scalar.addi v48 v52
  let v58 : BitVec 32 := Scalar.addi v53 v57
  let v63 : BitVec 32 := Scalar.addi v58 v62
  let c0_i32_41 : BitVec 32 := 0#32
  ![v63.toNat, 0]

def k0_off14 (v3 : BitVec 32) (v7 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) : Fin 2 → Nat :=
  let v8 : BitVec 32 := Scalar.addi v3 v7
  let v13 : BitVec 32 := Scalar.addi v8 v12
  let v18 : BitVec 32 := Scalar.addi v13 v17
  let v23 : BitVec 32 := Scalar.addi v18 v22
  let v28 : BitVec 32 := Scalar.addi v23 v27
  let v33 : BitVec 32 := Scalar.addi v28 v32
  let v38 : BitVec 32 := Scalar.addi v33 v37
  let v43 : BitVec 32 := Scalar.addi v38 v42
  let v48 : BitVec 32 := Scalar.addi v43 v47
  let v53 : BitVec 32 := Scalar.addi v48 v52
  let v58 : BitVec 32 := Scalar.addi v53 v57
  let v63 : BitVec 32 := Scalar.addi v58 v62
  let v68 : BitVec 32 := Scalar.addi v63 v67
  let c0_i32_44 : BitVec 32 := 0#32
  ![v68.toNat, 0]

def k0_off15 (v3 : BitVec 32) (v7 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) : Fin 2 → Nat :=
  let v8 : BitVec 32 := Scalar.addi v3 v7
  let v13 : BitVec 32 := Scalar.addi v8 v12
  let v18 : BitVec 32 := Scalar.addi v13 v17
  let v23 : BitVec 32 := Scalar.addi v18 v22
  let v28 : BitVec 32 := Scalar.addi v23 v27
  let v33 : BitVec 32 := Scalar.addi v28 v32
  let v38 : BitVec 32 := Scalar.addi v33 v37
  let v43 : BitVec 32 := Scalar.addi v38 v42
  let v48 : BitVec 32 := Scalar.addi v43 v47
  let v53 : BitVec 32 := Scalar.addi v48 v52
  let v58 : BitVec 32 := Scalar.addi v53 v57
  let v63 : BitVec 32 := Scalar.addi v58 v62
  let v68 : BitVec 32 := Scalar.addi v63 v67
  let v73 : BitVec 32 := Scalar.addi v68 v72
  let c0_i32_47 : BitVec 32 := 0#32
  ![v73.toNat, 0]

def k0_chk15 (v3 : BitVec 32) (v7 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) : Prop :=
  (∀ a, (k0_off15 v3 v7 v12 v17 v22 v27 v32 v37 v42 v47 v52 v57 v62 v67 v72) a + S1x1024.size a ≤ S16384x1024.size a)
theorem k0_off15_inb : ∀ (v3 : BitVec 32) (v7 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (k0_hw15 : k0_chk15 v3 v7 v12 v17 v22 v27 v32 v37 v42 v47 v52 v57 v62 v67 v72), ∀ a, (k0_off15 v3 v7 v12 v17 v22 v27 v32 v37 v42 v47 v52 v57 v62 v67 v72) a + S1x1024.size a ≤ S16384x1024.size a := fun v3 v7 v12 v17 v22 v27 v32 v37 v42 v47 v52 v57 v62 v67 v72 k0_hw15 => k0_hw15

def k0_off16 (v3 : BitVec 32) : Fin 2 → Nat :=
  let c0_i32_55 : BitVec 32 := 0#32
  ![v3.toNat, 0]

def k0_chk1 (v3 : BitVec 32) : Prop :=
  (∀ a, (k0_off1 v3) a + S1x1024.size a ≤ S16384x1024.size a) ∧
  (∀ a, (k0_off16 v3) a + S1x1024.size a ≤ S16384x1024.size a)
theorem k0_off1_inb : ∀ (v3 : BitVec 32) (k0_hw1 : k0_chk1 v3), ∀ a, (k0_off1 v3) a + S1x1024.size a ≤ S16384x1024.size a := fun v3 k0_hw1 => k0_hw1.1
theorem k0_off16_inb : ∀ (v3 : BitVec 32) (k0_hw1 : k0_chk1 v3), ∀ a, (k0_off16 v3) a + S1x1024.size a ≤ S16384x1024.size a := fun v3 k0_hw1 => k0_hw1.2

def k0_off17 (v3 : BitVec 32) (v7 : BitVec 32) : Fin 2 → Nat :=
  let v8 : BitVec 32 := Scalar.addi v3 v7
  let c0_i32_58 : BitVec 32 := 0#32
  ![v8.toNat, 0]

def k0_chk2 (v3 : BitVec 32) (v7 : BitVec 32) : Prop :=
  (∀ a, (k0_off2 v3 v7) a + S1x1024.size a ≤ S16384x1024.size a) ∧
  (∀ a, (k0_off17 v3 v7) a + S1x1024.size a ≤ S16384x1024.size a)
theorem k0_off2_inb : ∀ (v3 : BitVec 32) (v7 : BitVec 32) (k0_hw2 : k0_chk2 v3 v7), ∀ a, (k0_off2 v3 v7) a + S1x1024.size a ≤ S16384x1024.size a := fun v3 v7 k0_hw2 => k0_hw2.1
theorem k0_off17_inb : ∀ (v3 : BitVec 32) (v7 : BitVec 32) (k0_hw2 : k0_chk2 v3 v7), ∀ a, (k0_off17 v3 v7) a + S1x1024.size a ≤ S16384x1024.size a := fun v3 v7 k0_hw2 => k0_hw2.2

def k0_off18 (v3 : BitVec 32) (v7 : BitVec 32) (v12 : BitVec 32) : Fin 2 → Nat :=
  let v8 : BitVec 32 := Scalar.addi v3 v7
  let v13 : BitVec 32 := Scalar.addi v8 v12
  let c0_i32_61 : BitVec 32 := 0#32
  ![v13.toNat, 0]

def k0_chk3 (v3 : BitVec 32) (v7 : BitVec 32) (v12 : BitVec 32) : Prop :=
  (∀ a, (k0_off3 v3 v7 v12) a + S1x1024.size a ≤ S16384x1024.size a) ∧
  (∀ a, (k0_off18 v3 v7 v12) a + S1x1024.size a ≤ S16384x1024.size a)
theorem k0_off3_inb : ∀ (v3 : BitVec 32) (v7 : BitVec 32) (v12 : BitVec 32) (k0_hw3 : k0_chk3 v3 v7 v12), ∀ a, (k0_off3 v3 v7 v12) a + S1x1024.size a ≤ S16384x1024.size a := fun v3 v7 v12 k0_hw3 => k0_hw3.1
theorem k0_off18_inb : ∀ (v3 : BitVec 32) (v7 : BitVec 32) (v12 : BitVec 32) (k0_hw3 : k0_chk3 v3 v7 v12), ∀ a, (k0_off18 v3 v7 v12) a + S1x1024.size a ≤ S16384x1024.size a := fun v3 v7 v12 k0_hw3 => k0_hw3.2

def k0_off19 (v3 : BitVec 32) (v7 : BitVec 32) (v12 : BitVec 32) (v17 : BitVec 32) : Fin 2 → Nat :=
  let v8 : BitVec 32 := Scalar.addi v3 v7
  let v13 : BitVec 32 := Scalar.addi v8 v12
  let v18 : BitVec 32 := Scalar.addi v13 v17
  let c0_i32_64 : BitVec 32 := 0#32
  ![v18.toNat, 0]

def k0_chk4 (v3 : BitVec 32) (v7 : BitVec 32) (v12 : BitVec 32) (v17 : BitVec 32) : Prop :=
  (∀ a, (k0_off4 v3 v7 v12 v17) a + S1x1024.size a ≤ S16384x1024.size a) ∧
  (∀ a, (k0_off19 v3 v7 v12 v17) a + S1x1024.size a ≤ S16384x1024.size a)
theorem k0_off4_inb : ∀ (v3 : BitVec 32) (v7 : BitVec 32) (v12 : BitVec 32) (v17 : BitVec 32) (k0_hw4 : k0_chk4 v3 v7 v12 v17), ∀ a, (k0_off4 v3 v7 v12 v17) a + S1x1024.size a ≤ S16384x1024.size a := fun v3 v7 v12 v17 k0_hw4 => k0_hw4.1
theorem k0_off19_inb : ∀ (v3 : BitVec 32) (v7 : BitVec 32) (v12 : BitVec 32) (v17 : BitVec 32) (k0_hw4 : k0_chk4 v3 v7 v12 v17), ∀ a, (k0_off19 v3 v7 v12 v17) a + S1x1024.size a ≤ S16384x1024.size a := fun v3 v7 v12 v17 k0_hw4 => k0_hw4.2

def k0_off20 (v3 : BitVec 32) (v7 : BitVec 32) (v12 : BitVec 32) (v17 : BitVec 32) (v22 : BitVec 32) : Fin 2 → Nat :=
  let v8 : BitVec 32 := Scalar.addi v3 v7
  let v13 : BitVec 32 := Scalar.addi v8 v12
  let v18 : BitVec 32 := Scalar.addi v13 v17
  let v23 : BitVec 32 := Scalar.addi v18 v22
  let c0_i32_67 : BitVec 32 := 0#32
  ![v23.toNat, 0]

def k0_chk5 (v3 : BitVec 32) (v7 : BitVec 32) (v12 : BitVec 32) (v17 : BitVec 32) (v22 : BitVec 32) : Prop :=
  (∀ a, (k0_off5 v3 v7 v12 v17 v22) a + S1x1024.size a ≤ S16384x1024.size a) ∧
  (∀ a, (k0_off20 v3 v7 v12 v17 v22) a + S1x1024.size a ≤ S16384x1024.size a)
theorem k0_off5_inb : ∀ (v3 : BitVec 32) (v7 : BitVec 32) (v12 : BitVec 32) (v17 : BitVec 32) (v22 : BitVec 32) (k0_hw5 : k0_chk5 v3 v7 v12 v17 v22), ∀ a, (k0_off5 v3 v7 v12 v17 v22) a + S1x1024.size a ≤ S16384x1024.size a := fun v3 v7 v12 v17 v22 k0_hw5 => k0_hw5.1
theorem k0_off20_inb : ∀ (v3 : BitVec 32) (v7 : BitVec 32) (v12 : BitVec 32) (v17 : BitVec 32) (v22 : BitVec 32) (k0_hw5 : k0_chk5 v3 v7 v12 v17 v22), ∀ a, (k0_off20 v3 v7 v12 v17 v22) a + S1x1024.size a ≤ S16384x1024.size a := fun v3 v7 v12 v17 v22 k0_hw5 => k0_hw5.2

def k0_off21 (v3 : BitVec 32) (v7 : BitVec 32) (v12 : BitVec 32) (v17 : BitVec 32) (v22 : BitVec 32) (v27 : BitVec 32) : Fin 2 → Nat :=
  let v8 : BitVec 32 := Scalar.addi v3 v7
  let v13 : BitVec 32 := Scalar.addi v8 v12
  let v18 : BitVec 32 := Scalar.addi v13 v17
  let v23 : BitVec 32 := Scalar.addi v18 v22
  let v28 : BitVec 32 := Scalar.addi v23 v27
  let c0_i32_70 : BitVec 32 := 0#32
  ![v28.toNat, 0]

def k0_chk6 (v3 : BitVec 32) (v7 : BitVec 32) (v12 : BitVec 32) (v17 : BitVec 32) (v22 : BitVec 32) (v27 : BitVec 32) : Prop :=
  (∀ a, (k0_off6 v3 v7 v12 v17 v22 v27) a + S1x1024.size a ≤ S16384x1024.size a) ∧
  (∀ a, (k0_off21 v3 v7 v12 v17 v22 v27) a + S1x1024.size a ≤ S16384x1024.size a)
theorem k0_off6_inb : ∀ (v3 : BitVec 32) (v7 : BitVec 32) (v12 : BitVec 32) (v17 : BitVec 32) (v22 : BitVec 32) (v27 : BitVec 32) (k0_hw6 : k0_chk6 v3 v7 v12 v17 v22 v27), ∀ a, (k0_off6 v3 v7 v12 v17 v22 v27) a + S1x1024.size a ≤ S16384x1024.size a := fun v3 v7 v12 v17 v22 v27 k0_hw6 => k0_hw6.1
theorem k0_off21_inb : ∀ (v3 : BitVec 32) (v7 : BitVec 32) (v12 : BitVec 32) (v17 : BitVec 32) (v22 : BitVec 32) (v27 : BitVec 32) (k0_hw6 : k0_chk6 v3 v7 v12 v17 v22 v27), ∀ a, (k0_off21 v3 v7 v12 v17 v22 v27) a + S1x1024.size a ≤ S16384x1024.size a := fun v3 v7 v12 v17 v22 v27 k0_hw6 => k0_hw6.2

def k0_off22 (v3 : BitVec 32) (v7 : BitVec 32) (v12 : BitVec 32) (v17 : BitVec 32) (v22 : BitVec 32) (v27 : BitVec 32) (v32 : BitVec 32) : Fin 2 → Nat :=
  let v8 : BitVec 32 := Scalar.addi v3 v7
  let v13 : BitVec 32 := Scalar.addi v8 v12
  let v18 : BitVec 32 := Scalar.addi v13 v17
  let v23 : BitVec 32 := Scalar.addi v18 v22
  let v28 : BitVec 32 := Scalar.addi v23 v27
  let v33 : BitVec 32 := Scalar.addi v28 v32
  let c0_i32_73 : BitVec 32 := 0#32
  ![v33.toNat, 0]

def k0_chk7 (v3 : BitVec 32) (v7 : BitVec 32) (v12 : BitVec 32) (v17 : BitVec 32) (v22 : BitVec 32) (v27 : BitVec 32) (v32 : BitVec 32) : Prop :=
  (∀ a, (k0_off7 v3 v7 v12 v17 v22 v27 v32) a + S1x1024.size a ≤ S16384x1024.size a) ∧
  (∀ a, (k0_off22 v3 v7 v12 v17 v22 v27 v32) a + S1x1024.size a ≤ S16384x1024.size a)
theorem k0_off7_inb : ∀ (v3 : BitVec 32) (v7 : BitVec 32) (v12 : BitVec 32) (v17 : BitVec 32) (v22 : BitVec 32) (v27 : BitVec 32) (v32 : BitVec 32) (k0_hw7 : k0_chk7 v3 v7 v12 v17 v22 v27 v32), ∀ a, (k0_off7 v3 v7 v12 v17 v22 v27 v32) a + S1x1024.size a ≤ S16384x1024.size a := fun v3 v7 v12 v17 v22 v27 v32 k0_hw7 => k0_hw7.1
theorem k0_off22_inb : ∀ (v3 : BitVec 32) (v7 : BitVec 32) (v12 : BitVec 32) (v17 : BitVec 32) (v22 : BitVec 32) (v27 : BitVec 32) (v32 : BitVec 32) (k0_hw7 : k0_chk7 v3 v7 v12 v17 v22 v27 v32), ∀ a, (k0_off22 v3 v7 v12 v17 v22 v27 v32) a + S1x1024.size a ≤ S16384x1024.size a := fun v3 v7 v12 v17 v22 v27 v32 k0_hw7 => k0_hw7.2

def k0_off23 (v3 : BitVec 32) (v7 : BitVec 32) (v12 : BitVec 32) (v17 : BitVec 32) (v22 : BitVec 32) (v27 : BitVec 32) (v32 : BitVec 32) (v37 : BitVec 32) : Fin 2 → Nat :=
  let v8 : BitVec 32 := Scalar.addi v3 v7
  let v13 : BitVec 32 := Scalar.addi v8 v12
  let v18 : BitVec 32 := Scalar.addi v13 v17
  let v23 : BitVec 32 := Scalar.addi v18 v22
  let v28 : BitVec 32 := Scalar.addi v23 v27
  let v33 : BitVec 32 := Scalar.addi v28 v32
  let v38 : BitVec 32 := Scalar.addi v33 v37
  let c0_i32_76 : BitVec 32 := 0#32
  ![v38.toNat, 0]

def k0_chk8 (v3 : BitVec 32) (v7 : BitVec 32) (v12 : BitVec 32) (v17 : BitVec 32) (v22 : BitVec 32) (v27 : BitVec 32) (v32 : BitVec 32) (v37 : BitVec 32) : Prop :=
  (∀ a, (k0_off8 v3 v7 v12 v17 v22 v27 v32 v37) a + S1x1024.size a ≤ S16384x1024.size a) ∧
  (∀ a, (k0_off23 v3 v7 v12 v17 v22 v27 v32 v37) a + S1x1024.size a ≤ S16384x1024.size a)
theorem k0_off8_inb : ∀ (v3 : BitVec 32) (v7 : BitVec 32) (v12 : BitVec 32) (v17 : BitVec 32) (v22 : BitVec 32) (v27 : BitVec 32) (v32 : BitVec 32) (v37 : BitVec 32) (k0_hw8 : k0_chk8 v3 v7 v12 v17 v22 v27 v32 v37), ∀ a, (k0_off8 v3 v7 v12 v17 v22 v27 v32 v37) a + S1x1024.size a ≤ S16384x1024.size a := fun v3 v7 v12 v17 v22 v27 v32 v37 k0_hw8 => k0_hw8.1
theorem k0_off23_inb : ∀ (v3 : BitVec 32) (v7 : BitVec 32) (v12 : BitVec 32) (v17 : BitVec 32) (v22 : BitVec 32) (v27 : BitVec 32) (v32 : BitVec 32) (v37 : BitVec 32) (k0_hw8 : k0_chk8 v3 v7 v12 v17 v22 v27 v32 v37), ∀ a, (k0_off23 v3 v7 v12 v17 v22 v27 v32 v37) a + S1x1024.size a ≤ S16384x1024.size a := fun v3 v7 v12 v17 v22 v27 v32 v37 k0_hw8 => k0_hw8.2

def k0_off24 (v3 : BitVec 32) (v7 : BitVec 32) (v12 : BitVec 32) (v17 : BitVec 32) (v22 : BitVec 32) (v27 : BitVec 32) (v32 : BitVec 32) (v37 : BitVec 32) (v42 : BitVec 32) : Fin 2 → Nat :=
  let v8 : BitVec 32 := Scalar.addi v3 v7
  let v13 : BitVec 32 := Scalar.addi v8 v12
  let v18 : BitVec 32 := Scalar.addi v13 v17
  let v23 : BitVec 32 := Scalar.addi v18 v22
  let v28 : BitVec 32 := Scalar.addi v23 v27
  let v33 : BitVec 32 := Scalar.addi v28 v32
  let v38 : BitVec 32 := Scalar.addi v33 v37
  let v43 : BitVec 32 := Scalar.addi v38 v42
  let c0_i32_79 : BitVec 32 := 0#32
  ![v43.toNat, 0]

def k0_chk9 (v3 : BitVec 32) (v7 : BitVec 32) (v12 : BitVec 32) (v17 : BitVec 32) (v22 : BitVec 32) (v27 : BitVec 32) (v32 : BitVec 32) (v37 : BitVec 32) (v42 : BitVec 32) : Prop :=
  (∀ a, (k0_off9 v3 v7 v12 v17 v22 v27 v32 v37 v42) a + S1x1024.size a ≤ S16384x1024.size a) ∧
  (∀ a, (k0_off24 v3 v7 v12 v17 v22 v27 v32 v37 v42) a + S1x1024.size a ≤ S16384x1024.size a)
theorem k0_off9_inb : ∀ (v3 : BitVec 32) (v7 : BitVec 32) (v12 : BitVec 32) (v17 : BitVec 32) (v22 : BitVec 32) (v27 : BitVec 32) (v32 : BitVec 32) (v37 : BitVec 32) (v42 : BitVec 32) (k0_hw9 : k0_chk9 v3 v7 v12 v17 v22 v27 v32 v37 v42), ∀ a, (k0_off9 v3 v7 v12 v17 v22 v27 v32 v37 v42) a + S1x1024.size a ≤ S16384x1024.size a := fun v3 v7 v12 v17 v22 v27 v32 v37 v42 k0_hw9 => k0_hw9.1
theorem k0_off24_inb : ∀ (v3 : BitVec 32) (v7 : BitVec 32) (v12 : BitVec 32) (v17 : BitVec 32) (v22 : BitVec 32) (v27 : BitVec 32) (v32 : BitVec 32) (v37 : BitVec 32) (v42 : BitVec 32) (k0_hw9 : k0_chk9 v3 v7 v12 v17 v22 v27 v32 v37 v42), ∀ a, (k0_off24 v3 v7 v12 v17 v22 v27 v32 v37 v42) a + S1x1024.size a ≤ S16384x1024.size a := fun v3 v7 v12 v17 v22 v27 v32 v37 v42 k0_hw9 => k0_hw9.2

def k0_off25 (v3 : BitVec 32) (v7 : BitVec 32) (v12 : BitVec 32) (v17 : BitVec 32) (v22 : BitVec 32) (v27 : BitVec 32) (v32 : BitVec 32) (v37 : BitVec 32) (v42 : BitVec 32) (v47 : BitVec 32) : Fin 2 → Nat :=
  let v8 : BitVec 32 := Scalar.addi v3 v7
  let v13 : BitVec 32 := Scalar.addi v8 v12
  let v18 : BitVec 32 := Scalar.addi v13 v17
  let v23 : BitVec 32 := Scalar.addi v18 v22
  let v28 : BitVec 32 := Scalar.addi v23 v27
  let v33 : BitVec 32 := Scalar.addi v28 v32
  let v38 : BitVec 32 := Scalar.addi v33 v37
  let v43 : BitVec 32 := Scalar.addi v38 v42
  let v48 : BitVec 32 := Scalar.addi v43 v47
  let c0_i32_82 : BitVec 32 := 0#32
  ![v48.toNat, 0]

def k0_chk10 (v3 : BitVec 32) (v7 : BitVec 32) (v12 : BitVec 32) (v17 : BitVec 32) (v22 : BitVec 32) (v27 : BitVec 32) (v32 : BitVec 32) (v37 : BitVec 32) (v42 : BitVec 32) (v47 : BitVec 32) : Prop :=
  (∀ a, (k0_off10 v3 v7 v12 v17 v22 v27 v32 v37 v42 v47) a + S1x1024.size a ≤ S16384x1024.size a) ∧
  (∀ a, (k0_off25 v3 v7 v12 v17 v22 v27 v32 v37 v42 v47) a + S1x1024.size a ≤ S16384x1024.size a)
theorem k0_off10_inb : ∀ (v3 : BitVec 32) (v7 : BitVec 32) (v12 : BitVec 32) (v17 : BitVec 32) (v22 : BitVec 32) (v27 : BitVec 32) (v32 : BitVec 32) (v37 : BitVec 32) (v42 : BitVec 32) (v47 : BitVec 32) (k0_hw10 : k0_chk10 v3 v7 v12 v17 v22 v27 v32 v37 v42 v47), ∀ a, (k0_off10 v3 v7 v12 v17 v22 v27 v32 v37 v42 v47) a + S1x1024.size a ≤ S16384x1024.size a := fun v3 v7 v12 v17 v22 v27 v32 v37 v42 v47 k0_hw10 => k0_hw10.1
theorem k0_off25_inb : ∀ (v3 : BitVec 32) (v7 : BitVec 32) (v12 : BitVec 32) (v17 : BitVec 32) (v22 : BitVec 32) (v27 : BitVec 32) (v32 : BitVec 32) (v37 : BitVec 32) (v42 : BitVec 32) (v47 : BitVec 32) (k0_hw10 : k0_chk10 v3 v7 v12 v17 v22 v27 v32 v37 v42 v47), ∀ a, (k0_off25 v3 v7 v12 v17 v22 v27 v32 v37 v42 v47) a + S1x1024.size a ≤ S16384x1024.size a := fun v3 v7 v12 v17 v22 v27 v32 v37 v42 v47 k0_hw10 => k0_hw10.2

def k0_off26 (v3 : BitVec 32) (v7 : BitVec 32) (v12 : BitVec 32) (v17 : BitVec 32) (v22 : BitVec 32) (v27 : BitVec 32) (v32 : BitVec 32) (v37 : BitVec 32) (v42 : BitVec 32) (v47 : BitVec 32) (v52 : BitVec 32) : Fin 2 → Nat :=
  let v8 : BitVec 32 := Scalar.addi v3 v7
  let v13 : BitVec 32 := Scalar.addi v8 v12
  let v18 : BitVec 32 := Scalar.addi v13 v17
  let v23 : BitVec 32 := Scalar.addi v18 v22
  let v28 : BitVec 32 := Scalar.addi v23 v27
  let v33 : BitVec 32 := Scalar.addi v28 v32
  let v38 : BitVec 32 := Scalar.addi v33 v37
  let v43 : BitVec 32 := Scalar.addi v38 v42
  let v48 : BitVec 32 := Scalar.addi v43 v47
  let v53 : BitVec 32 := Scalar.addi v48 v52
  let c0_i32_85 : BitVec 32 := 0#32
  ![v53.toNat, 0]

def k0_chk11 (v3 : BitVec 32) (v7 : BitVec 32) (v12 : BitVec 32) (v17 : BitVec 32) (v22 : BitVec 32) (v27 : BitVec 32) (v32 : BitVec 32) (v37 : BitVec 32) (v42 : BitVec 32) (v47 : BitVec 32) (v52 : BitVec 32) : Prop :=
  (∀ a, (k0_off11 v3 v7 v12 v17 v22 v27 v32 v37 v42 v47 v52) a + S1x1024.size a ≤ S16384x1024.size a) ∧
  (∀ a, (k0_off26 v3 v7 v12 v17 v22 v27 v32 v37 v42 v47 v52) a + S1x1024.size a ≤ S16384x1024.size a)
theorem k0_off11_inb : ∀ (v3 : BitVec 32) (v7 : BitVec 32) (v12 : BitVec 32) (v17 : BitVec 32) (v22 : BitVec 32) (v27 : BitVec 32) (v32 : BitVec 32) (v37 : BitVec 32) (v42 : BitVec 32) (v47 : BitVec 32) (v52 : BitVec 32) (k0_hw11 : k0_chk11 v3 v7 v12 v17 v22 v27 v32 v37 v42 v47 v52), ∀ a, (k0_off11 v3 v7 v12 v17 v22 v27 v32 v37 v42 v47 v52) a + S1x1024.size a ≤ S16384x1024.size a := fun v3 v7 v12 v17 v22 v27 v32 v37 v42 v47 v52 k0_hw11 => k0_hw11.1
theorem k0_off26_inb : ∀ (v3 : BitVec 32) (v7 : BitVec 32) (v12 : BitVec 32) (v17 : BitVec 32) (v22 : BitVec 32) (v27 : BitVec 32) (v32 : BitVec 32) (v37 : BitVec 32) (v42 : BitVec 32) (v47 : BitVec 32) (v52 : BitVec 32) (k0_hw11 : k0_chk11 v3 v7 v12 v17 v22 v27 v32 v37 v42 v47 v52), ∀ a, (k0_off26 v3 v7 v12 v17 v22 v27 v32 v37 v42 v47 v52) a + S1x1024.size a ≤ S16384x1024.size a := fun v3 v7 v12 v17 v22 v27 v32 v37 v42 v47 v52 k0_hw11 => k0_hw11.2

def k0_off27 (v3 : BitVec 32) (v7 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) : Fin 2 → Nat :=
  let v8 : BitVec 32 := Scalar.addi v3 v7
  let v13 : BitVec 32 := Scalar.addi v8 v12
  let v18 : BitVec 32 := Scalar.addi v13 v17
  let v23 : BitVec 32 := Scalar.addi v18 v22
  let v28 : BitVec 32 := Scalar.addi v23 v27
  let v33 : BitVec 32 := Scalar.addi v28 v32
  let v38 : BitVec 32 := Scalar.addi v33 v37
  let v43 : BitVec 32 := Scalar.addi v38 v42
  let v48 : BitVec 32 := Scalar.addi v43 v47
  let v53 : BitVec 32 := Scalar.addi v48 v52
  let v58 : BitVec 32 := Scalar.addi v53 v57
  let c0_i32_88 : BitVec 32 := 0#32
  ![v58.toNat, 0]

def k0_chk12 (v3 : BitVec 32) (v7 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) : Prop :=
  (∀ a, (k0_off12 v3 v7 v12 v17 v22 v27 v32 v37 v42 v47 v52 v57) a + S1x1024.size a ≤ S16384x1024.size a) ∧
  (∀ a, (k0_off27 v3 v7 v12 v17 v22 v27 v32 v37 v42 v47 v52 v57) a + S1x1024.size a ≤ S16384x1024.size a)
theorem k0_off12_inb : ∀ (v3 : BitVec 32) (v7 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (k0_hw12 : k0_chk12 v3 v7 v12 v17 v22 v27 v32 v37 v42 v47 v52 v57), ∀ a, (k0_off12 v3 v7 v12 v17 v22 v27 v32 v37 v42 v47 v52 v57) a + S1x1024.size a ≤ S16384x1024.size a := fun v3 v7 v12 v17 v22 v27 v32 v37 v42 v47 v52 v57 k0_hw12 => k0_hw12.1
theorem k0_off27_inb : ∀ (v3 : BitVec 32) (v7 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (k0_hw12 : k0_chk12 v3 v7 v12 v17 v22 v27 v32 v37 v42 v47 v52 v57), ∀ a, (k0_off27 v3 v7 v12 v17 v22 v27 v32 v37 v42 v47 v52 v57) a + S1x1024.size a ≤ S16384x1024.size a := fun v3 v7 v12 v17 v22 v27 v32 v37 v42 v47 v52 v57 k0_hw12 => k0_hw12.2

def k0_off28 (v3 : BitVec 32) (v7 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) : Fin 2 → Nat :=
  let v8 : BitVec 32 := Scalar.addi v3 v7
  let v13 : BitVec 32 := Scalar.addi v8 v12
  let v18 : BitVec 32 := Scalar.addi v13 v17
  let v23 : BitVec 32 := Scalar.addi v18 v22
  let v28 : BitVec 32 := Scalar.addi v23 v27
  let v33 : BitVec 32 := Scalar.addi v28 v32
  let v38 : BitVec 32 := Scalar.addi v33 v37
  let v43 : BitVec 32 := Scalar.addi v38 v42
  let v48 : BitVec 32 := Scalar.addi v43 v47
  let v53 : BitVec 32 := Scalar.addi v48 v52
  let v58 : BitVec 32 := Scalar.addi v53 v57
  let v63 : BitVec 32 := Scalar.addi v58 v62
  let c0_i32_91 : BitVec 32 := 0#32
  ![v63.toNat, 0]

def k0_chk13 (v3 : BitVec 32) (v7 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) : Prop :=
  (∀ a, (k0_off13 v3 v7 v12 v17 v22 v27 v32 v37 v42 v47 v52 v57 v62) a + S1x1024.size a ≤ S16384x1024.size a) ∧
  (∀ a, (k0_off28 v3 v7 v12 v17 v22 v27 v32 v37 v42 v47 v52 v57 v62) a + S1x1024.size a ≤ S16384x1024.size a)
theorem k0_off13_inb : ∀ (v3 : BitVec 32) (v7 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (k0_hw13 : k0_chk13 v3 v7 v12 v17 v22 v27 v32 v37 v42 v47 v52 v57 v62), ∀ a, (k0_off13 v3 v7 v12 v17 v22 v27 v32 v37 v42 v47 v52 v57 v62) a + S1x1024.size a ≤ S16384x1024.size a := fun v3 v7 v12 v17 v22 v27 v32 v37 v42 v47 v52 v57 v62 k0_hw13 => k0_hw13.1
theorem k0_off28_inb : ∀ (v3 : BitVec 32) (v7 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (k0_hw13 : k0_chk13 v3 v7 v12 v17 v22 v27 v32 v37 v42 v47 v52 v57 v62), ∀ a, (k0_off28 v3 v7 v12 v17 v22 v27 v32 v37 v42 v47 v52 v57 v62) a + S1x1024.size a ≤ S16384x1024.size a := fun v3 v7 v12 v17 v22 v27 v32 v37 v42 v47 v52 v57 v62 k0_hw13 => k0_hw13.2

def k0_off29 (v3 : BitVec 32) (v7 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) : Fin 2 → Nat :=
  let v8 : BitVec 32 := Scalar.addi v3 v7
  let v13 : BitVec 32 := Scalar.addi v8 v12
  let v18 : BitVec 32 := Scalar.addi v13 v17
  let v23 : BitVec 32 := Scalar.addi v18 v22
  let v28 : BitVec 32 := Scalar.addi v23 v27
  let v33 : BitVec 32 := Scalar.addi v28 v32
  let v38 : BitVec 32 := Scalar.addi v33 v37
  let v43 : BitVec 32 := Scalar.addi v38 v42
  let v48 : BitVec 32 := Scalar.addi v43 v47
  let v53 : BitVec 32 := Scalar.addi v48 v52
  let v58 : BitVec 32 := Scalar.addi v53 v57
  let v63 : BitVec 32 := Scalar.addi v58 v62
  let v68 : BitVec 32 := Scalar.addi v63 v67
  let c0_i32_94 : BitVec 32 := 0#32
  ![v68.toNat, 0]

def k0_chk14 (v3 : BitVec 32) (v7 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) : Prop :=
  (∀ a, (k0_off14 v3 v7 v12 v17 v22 v27 v32 v37 v42 v47 v52 v57 v62 v67) a + S1x1024.size a ≤ S16384x1024.size a) ∧
  (∀ a, (k0_off29 v3 v7 v12 v17 v22 v27 v32 v37 v42 v47 v52 v57 v62 v67) a + S1x1024.size a ≤ S16384x1024.size a)
theorem k0_off14_inb : ∀ (v3 : BitVec 32) (v7 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (k0_hw14 : k0_chk14 v3 v7 v12 v17 v22 v27 v32 v37 v42 v47 v52 v57 v62 v67), ∀ a, (k0_off14 v3 v7 v12 v17 v22 v27 v32 v37 v42 v47 v52 v57 v62 v67) a + S1x1024.size a ≤ S16384x1024.size a := fun v3 v7 v12 v17 v22 v27 v32 v37 v42 v47 v52 v57 v62 v67 k0_hw14 => k0_hw14.1
theorem k0_off29_inb : ∀ (v3 : BitVec 32) (v7 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (k0_hw14 : k0_chk14 v3 v7 v12 v17 v22 v27 v32 v37 v42 v47 v52 v57 v62 v67), ∀ a, (k0_off29 v3 v7 v12 v17 v22 v27 v32 v37 v42 v47 v52 v57 v62 v67) a + S1x1024.size a ≤ S16384x1024.size a := fun v3 v7 v12 v17 v22 v27 v32 v37 v42 v47 v52 v57 v62 v67 k0_hw14 => k0_hw14.2

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== ReferenceIdeal.lean ====
abbrev S16384x1024 : Shape := ⟨2, ![16384, 1024]⟩
abbrev S16 : Shape := ⟨1, ![16]⟩
abbrev S_ : Shape := ⟨0, ![]⟩
abbrev S15 : Shape := ⟨1, ![15]⟩
abbrev S1 : Shape := ⟨1, ![1]⟩
abbrev S16x1 : Shape := ⟨2, ![16, 1]⟩
abbrev S1x1 : Shape := ⟨2, ![1, 1]⟩
abbrev S16x1024 : Shape := ⟨2, ![16, 1024]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16, .i32⟩
  | .hbm, ⟨2, _⟩ => ⟨S_, .i32⟩
  | .hbm, ⟨3, _⟩ => ⟨S16, .i32⟩
  | .hbm, ⟨4, _⟩ => ⟨S_, .i32⟩
  | .hbm, ⟨5, _⟩ => ⟨S_, .i32⟩
  | .hbm, ⟨6, _⟩ => ⟨S16, .i32⟩
  | .hbm, ⟨7, _⟩ => ⟨S15, .i32⟩
  | .hbm, ⟨8, _⟩ => ⟨S_, .i32⟩
  | .hbm, ⟨9, _⟩ => ⟨S1, .i32⟩
  | .hbm, ⟨10, _⟩ => ⟨S16, .i32⟩
  | .hbm, ⟨11, _⟩ => ⟨S_, .i32⟩
  | .hbm, ⟨12, _⟩ => ⟨S16, .i32⟩
  | .hbm, ⟨13, _⟩ => ⟨S16, .i1⟩
  | .hbm, ⟨14, _⟩ => ⟨S_, .i32⟩
  | .hbm, ⟨15, _⟩ => ⟨S16, .i32⟩
  | .hbm, ⟨16, _⟩ => ⟨S16, .i32⟩
  | .hbm, ⟨17, _⟩ => ⟨S16, .i32⟩
  | .hbm, ⟨18, _⟩ => ⟨S16x1, .i32⟩
  | .hbm, ⟨19, _⟩ => ⟨S1, .i32⟩
  | .hbm, ⟨20, _⟩ => ⟨S_, .i32⟩
  | .hbm, ⟨21, _⟩ => ⟨S16x1, .i32⟩
  | .hbm, ⟨22, _⟩ => ⟨S16x1, .i1⟩
  | .hbm, ⟨23, _⟩ => ⟨S1x1, .i32⟩
  | .hbm, ⟨24, _⟩ => ⟨S16x1, .i32⟩
  | .hbm, ⟨25, _⟩ => ⟨S16x1, .i1⟩
  | .hbm, ⟨26, _⟩ => ⟨S16x1, .i1⟩
  | .hbm, ⟨27, _⟩ => ⟨S_, .i1⟩
  | .hbm, ⟨28, _⟩ => ⟨S16, .i1⟩
  | .hbm, ⟨29, _⟩ => ⟨S16x1024, .f32⟩
  | .hbm, ⟨30, _⟩ => ⟨S16x1024, .i1⟩
  | .hbm, ⟨31, _⟩ => ⟨S_, .f32⟩
  | .hbm, ⟨32, _⟩ => ⟨S16x1024, .f32⟩
  | .hbm, ⟨33, _⟩ => ⟨S16x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_call0_call0_c : Ref sig .tc := ⟨.hbm, 4, rfl⟩
abbrev main_call0_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_call1_c : Ref sig .tc := ⟨.hbm, 11, rfl⟩
abbrev main_call1_v0 : Ref sig .tc := ⟨.hbm, 12, rfl⟩
abbrev main_call1_v1 : Ref sig .tc := ⟨.hbm, 13, rfl⟩
abbrev main_call1_c_0 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_call1_v5 : Ref sig .tc := ⟨.hbm, 18, rfl⟩
abbrev main_call1_c_1 : Ref sig .tc := ⟨.hbm, 19, rfl⟩
abbrev main_call1_c_2 : Ref sig .tc := ⟨.hbm, 20, rfl⟩
abbrev main_call1_v6 : Ref sig .tc := ⟨.hbm, 21, rfl⟩
abbrev main_call1_v7 : Ref sig .tc := ⟨.hbm, 22, rfl⟩
abbrev main_call1_v8 : Ref sig .tc := ⟨.hbm, 23, rfl⟩
abbrev main_call1_v9 : Ref sig .tc := ⟨.hbm, 24, rfl⟩
abbrev main_call1_v10 : Ref sig .tc := ⟨.hbm, 25, rfl⟩
abbrev main_call1_v11 : Ref sig .tc := ⟨.hbm, 26, rfl⟩
abbrev main_call1_c_3 : Ref sig .tc := ⟨.hbm, 27, rfl⟩
abbrev main_call1_v12 : Ref sig .tc := ⟨.hbm, 28, rfl⟩
abbrev main_call1_v13 : Ref sig .tc := ⟨.hbm, 29, rfl⟩
abbrev main_call1_v14 : Ref sig .tc := ⟨.hbm, 30, rfl⟩
abbrev main_call1_cst : Ref sig .tc := ⟨.hbm, 31, rfl⟩
abbrev main_call1_v15 : Ref sig .tc := ⟨.hbm, 32, rfl⟩
abbrev main_v5 : Ref sig .tc := ⟨.hbm, 33, rfl⟩

abbrev nD : Nat := 1
abbrev τ : Topo := Topo.v7x

variable {F : FTy → Type} [FloatOps F]
-- ==== Proof.Starts.lean ====
/-
  What the pooling kernel computes, stated without the machine: a batch of sixteen sequences is packed into one array of
  rows, sequence `t` beginning at row `start t`, the sum of the lengths before it; the result's row `t` is the packed
  array's row `start t`. The sums are of 32-bit words, as the kernel adds them; where every length is below 1024 no sum
  wraps and every start is a row of the array.
-/
module

public import proofs.«01_k».proof.Defs
public import Idealize.ShloMosaic.Lib.ValueIdxCore

@[expose] public section

noncomputable section

namespace Cert.Proof.Starts

open Cert.KernelIdeal (S16 S16384x1024 S16x1024 S1x1024)
open Idealize.ShloMosaic Idealize.ShloMosaic.ValueIdx

/-- The lengths, by number; past the last, zero. -/
def word (lens : S16.Idx → BitVec 32) (k : ℕ) : BitVec 32 := if h : k < 16 then lens (ix1 ⟨k, h⟩) else 0#32

/-- Where sequence `t` begins: the sum of the lengths `w 0, …, w (t - 1)`, added from the left. -/
def start (w : ℕ → BitVec 32) : ℕ → BitVec 32
  | 0 => 0#32
  | 1 => w 0
  | t + 2 => start w (t + 1) + w (t + 1)

/-- The next sequence begins where this one ends. -/
theorem start_succ (w : ℕ → BitVec 32) (t : ℕ) : start w (t + 1) = start w t + w t := by
  cases t with
  | zero => exact (BitVec.zero_add _).symm
  | succ t => rfl

/-- Sixteen lengths below 1024 each: sequence `t` begins at row `1023 * t` at the latest. -/
theorem start_le (w : ℕ → BitVec 32) (hw : ∀ k, (w k).toNat < 1024) (t : ℕ) (ht : t ≤ 16) : (start w t).toNat ≤ 1023 * t := by
  induction t with
  | zero => exact Nat.le_refl 0
  | succ t ih =>
    have h := ih (by omega)
    have := hw t
    rw [start_succ, BitVec.toNat_add]
    exact (Nat.mod_le _ _).trans (by omega)

/-- Every sequence begins inside the packed array. -/
def InRange (w : ℕ → BitVec 32) : Prop := ∀ t : ℕ, t < 16 → (start w t).toNat < 16384

/-- Lengths below 1024 keep every start inside the packed array. -/
theorem inRange_of_lt (w : ℕ → BitVec 32) (hw : ∀ k, (w k).toNat < 1024) : InRange w := fun t ht => by
  have := start_le w hw t (by omega); omega

/-- A window of one row at a row inside the packed array lies inside it. -/
theorem row_inb {w : ℕ → BitVec 32} (hw : InRange w) (t : ℕ) (ht : t < 16) {off : Fin 2 → ℕ} (hoff : off = ![(start w t).toNat, 0]) :
    ∀ a, off a + S1x1024.size a ≤ S16384x1024.size a := by
  subst hoff
  have := hw t ht
  exact Rect.inb₂ (d := ![16384, 1024]) (show (start w t).toNat + 1 ≤ 16384 by omega) (show 0 + 1024 ≤ 1024 by omega)

/-- The pooled array: row `t` is the packed array's row at which sequence `t` begins. -/
def pooled {α : Type} (hs : S16384x1024.Idx → α) (w : ℕ → BitVec 32) : S16x1024.Idx → α := fun i =>
  hs (ix2 (Fin.ofNat 16384 (start w (i 0).val).toNat) (i 1))

/-- Row `t` of the result, as a set of its elements. -/
def outRow (t : Fin 16) : Finset S16x1024.Idx := Finset.univ.filter fun i => (i 0).val = t.val

/-- The row at which sequence `t` begins, as a set of the packed array's elements. -/
def srcRow (w : ℕ → BitVec 32) (t : Fin 16) : Finset S16384x1024.Idx := Finset.univ.filter fun i => (i 0).val = (start w t.val).toNat

/-- The result's rows are pairwise disjoint. -/
theorem outRow_disjoint (t : Fin 16) (t' : Fin 16) (h : t ≠ t') : Disjoint (outRow t) (outRow t') :=
  Finset.disjoint_left.mpr fun _ hi hi' => h (Fin.ext ((Finset.mem_filter.mp hi).2.symm.trans (Finset.mem_filter.mp hi').2))

end Cert.Proof.Starts

end
-- ==== Proof.Pre.lean ====
/-
  What the precondition says of the lengths: every one, read signed, is between 0 and 1023, so as a natural number it is
  below 1024, and every sequence begins inside the packed array.
-/
module

public import proofs.«01_k».proof.Proof.Gen.Pre_lens_in_range
public import proofs.«01_k».proof.Proof.Starts
public import Idealize.ShloMosaic.Lib.ReduceAll
public import Idealize.ShloMosaic.Lib.WordCmp
public import Idealize.ShloMosaic.Lib.StableHlo.Predicate

@[expose] public section

noncomputable section

namespace Cert.Proof.Pre

open Cert.Pre_lens_in_range Cert.Proof.Starts
open Idealize.ShloMosaic Idealize.ShloMosaic.ValueIdx

variable {F : FTy → Type} [FloatOps F]

/-- A word that is at least 0 and less than 1024, both read signed, is below 1024 as a natural number. -/
theorem lt_of_bits (x : BitVec 32) (h : IntOp.andi (IntOp.cmpi .sge x 0#32) (IntOp.cmpi .slt x 1024#32) = 1#1) : x.toNat < 1024 := by
  have both : ∀ a b : BitVec 1, IntOp.andi a b = 1#1 → a = 1#1 ∧ b = 1#1 := by decide
  obtain ⟨h0, h1⟩ := both _ _ h
  rw [WordCmp.cmpi_sge_zero, StableHlo.Predicate.ofBool_eq_one_iff, decide_eq_true_iff] at h0
  exact (StableHlo.Predicate.slt_iff_toNat h0 (by decide)).1 h1

/-- Where the precondition holds, every length is below 1024. -/
theorem lens_lt (hs : FVec F S16384x1024 .f32) (lens : IVec S16 32) (h : fn (F := F) hs lens = fun _ => 1#1) (i : S16.Idx) :
    (lens i).toNat < 1024 := by
  haveI : Subsingleton S_.Idx := ⟨fun a b => funext fun k => k.elim0⟩
  exact lt_of_bits _ (Host.reduce_andi_all _ _ _ _ ix0 (congrFun h ix0) i)

/-- Where the precondition holds, every sequence begins inside the packed array. -/
theorem inRange (hs : FVec F S16384x1024 .f32) (lens : IVec S16 32) (h : fn (F := F) hs lens = fun _ => 1#1) : InRange (word lens) :=
  inRange_of_lt _ fun k => by
    unfold word
    split
    · exact lens_lt hs lens h _
    · exact Nat.zero_lt_succ _

end Cert.Proof.Pre

end
-- ==== Proof.Rows.lean ====
/-
  The row copies' geometry: the sets of elements the kernel's one-row windows name, and what a landed window holds.
-/
module

public import proofs.«01_k».proof.Proof.Starts
public import Idealize.ShloMosaic.Lib.SparseCore.Quiescent
public import Idealize.ShloMosaic.Lib.Pipeline.Kit
public import Idealize.ShloMosaic.Lib.Batch
public import Idealize.ShloMosaic.Lib.Tactic
public import Idealize.ShloMosaic.Lib.StableHlo.Run
public import Idealize.ShloMosaic.Lib.Pipeline.ValueKit.Geometry
public import proofs.«01_k».proof.Proof.Gen.KernelIdeal

@[expose] public section

noncomputable section

namespace Cert.Proof.Rows

open Cert.KernelIdeal Cert.KernelIdeal.Gen Cert.Proof.Starts
open Idealize.ShloMosaic Idealize.ShloMosaic.ValueIdx

variable {F : FTy → Type}

/-- The packed rows, the result, the lengths and the scalar memory they are staged in, as the kernel names them. -/
abbrev hW : Memref sig Kind.scScalar Space.hbm S16384x1024 EltTy.f32 := Memref.whole main_arg0_scs
abbrev oW : Memref sig Kind.scScalar Space.hbm S16x1024 EltTy.f32 := Memref.whole main_v0_scs
abbrev lW : Memref sig Kind.scScalar Space.hbm S16 EltTy.i32 := Memref.whole main_arg1_scs
abbrev sW : Memref sig Kind.scScalar Space.smem S16 EltTy.i32 := Memref.whole cc0_scratch0

/-- A one-row window of the packed rows, and of the result. -/
abbrev hWin (off : Fin 2 → ℕ) (inb : ∀ a, off a + S1x1024.size a ≤ S16384x1024.size a) : Memref sig Kind.scScalar Space.hbm S1x1024 EltTy.f32 :=
  hW.slice (Rect.unit (s := S16384x1024) off S1x1024.size inb) (fun _ => rfl)
abbrev oWin (off : Fin 2 → ℕ) (inb : ∀ a, off a + S1x1024.size a ≤ S16x1024.size a) : Memref sig Kind.scScalar Space.hbm S1x1024 EltTy.f32 :=
  oW.slice (Rect.unit (s := S16x1024) off S1x1024.size inb) (fun _ => rfl)

/-- The window at sequence `t`'s start is that row's elements; -/
theorem hWin_set (w : ℕ → BitVec 32) (t : Fin 16) {off : Fin 2 → ℕ} (hoff : off = ![(start w t.val).toNat, 0]) (inb) :
    (hWin off inb).view.set = srcRow w t := by
  subst hoff
  refine (View.set_slice_whole _ _).trans (Finset.ext fun i => ?_)
  rw [Rect.mem_set_unit]
  simp only [srcRow, Finset.mem_filter, Finset.mem_univ, true_and]
  constructor
  · intro h; have h0 := h 0; simp at h0; omega
  · intro h
    refine Fin.forall_fin_two.mpr ⟨?_, ?_⟩
    · simp; omega
    · have := (i 1).isLt; simp at this ⊢; omega

/-- the result's window at row `t` is its row's. -/
theorem oWin_set (t : Fin 16) {off : Fin 2 → ℕ} (hoff : off = ![t.val, 0]) (inb) : (oWin off inb).view.set = outRow t := by
  subst hoff
  refine (View.set_slice_whole _ _).trans (Finset.ext fun i => ?_)
  rw [Rect.mem_set_unit]
  simp only [outRow, Finset.mem_filter, Finset.mem_univ, true_and]
  constructor
  · intro h; have h0 := h 0; simp at h0; omega
  · intro h
    refine Fin.forall_fin_two.mpr ⟨?_, ?_⟩
    · simp; omega
    · have := (i 1).isLt; simp at this ⊢; omega

/-- Sequence `t`'s first row copied onto the result's row `t` leaves the pooled array there. -/
theorem landed_eq (w : ℕ → BitVec 32) (hw : InRange w) (t : Fin 16) {off doff : Fin 2 → ℕ} (hoff : off = ![(start w t.val).toNat, 0])
    (hdoff : doff = ![t.val, 0]) (inb) (dinb) (hs : S16384x1024.Idx → Elt F .f32) (fo : S16x1024.Idx → Elt F .f32) (i : S16x1024.Idx) (hi : i ∈ outRow t) :
    (oWin doff dinb).view.write (Elt F) fo ((ReadAs.same (Val := Elt F)).apply ((hWin off inb).view.read (Elt F) hs)) Finset.univ i = pooled hs w i := by
  subst hoff; subst hdoff
  have h0 : (i 0).val = t.val := (Finset.mem_filter.mp hi).2
  have hx : (oWin ![t.val, 0] dinb).view.emb (ix2 (0 : Fin 1) (i 1)) = i := by
    funext a
    refine Fin.ext ?_
    rw [show ((oWin ![t.val, 0] dinb).view.emb (ix2 (0 : Fin 1) (i 1)) a : ℕ) = (![t.val, 0] : Fin 2 → ℕ) a + (ix2 (0 : Fin 1) (i 1) a : ℕ) from
      ValueKit.view_emb_slice_whole_unit_val main_v0_scs _ _ _ _ a]
    match a with
    | ⟨0, _⟩ => exact h0.symm
    | ⟨1, _⟩ => exact Nat.zero_add _
  conv_lhs => rw [← hx]
  rw [View.write_emb_of_mem _ _ (Finset.mem_univ _)]
  show hs ((hWin ![(start w t.val).toNat, 0] inb).view.emb (ix2 (0 : Fin 1) (i 1))) = _
  unfold pooled
  refine congrArg hs (funext fun a => Fin.ext ?_)
  rw [show ((hWin ![(start w t.val).toNat, 0] inb).view.emb (ix2 (0 : Fin 1) (i 1)) a : ℕ) = (![(start w t.val).toNat, 0] : Fin 2 → ℕ) a + (ix2 (0 : Fin 1) (i 1) a : ℕ) from
      ValueKit.view_emb_slice_whole_unit_val main_arg0_scs _ _ _ _ a]
  match a with
  | ⟨0, _⟩ =>
    show (start w t.val).toNat + 0 = (start w (i 0).val).toNat % 16384
    rw [h0, Nat.mod_eq_of_lt (hw _ t.isLt)]; rfl
  | ⟨1, _⟩ => exact Nat.zero_add _

end Cert.Proof.Rows

end
-- ==== Proof.Steps.lean ====
/-
  The kernel's statements, each proved once for every sequence: staging the lengths in scalar memory and waiting for
  them, reading a length, issuing a sequence's row copy, and waiting for one. The sixteen row copies count on one
  semaphore: they are a batch, whose deliveries come back together at its sixteenth wait; until then nothing touches a
  copy's row of the packed array (read at a share of its own) or of the result.
-/
module

public import proofs.«01_k».proof.Proof.Rows

@[expose] public section

noncomputable section

namespace Cert.Proof.Steps

open Cert.KernelIdeal Cert.KernelIdeal.Gen Cert.Proof.Starts Cert.Proof.Rows

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pending Batch Flight MayWaits)
open Idealize.ShloMosaic.Tactic

variable {F : FTy → Type} [FloatOps F]

/-! ## The resource algebra: the launch's handshakes beside the transfers' counters -/

abbrev UH : Type := URounds (GSem nD τ sig) ℕ
abbrev UU : Type := UH × Counters

local notation "𝕄" => MT nD τ sig (HIx 1) (Elt F) ℕ UU ℕ

abbrev 𝒱₀ : Variants := Variants.none
/-- The transfers' counters in the algebra. -/
abbrev EC : UEmb Counters (MT nD τ sig (HIx 1) (Elt F) ℕ UU ℕ) := countersEmb (U := UU)

/-! ## The semaphores, and a copy's row and its sequence -/

variable (d : Dev nD) (c : Fin τ.nSC)

/-- The lengths' semaphore and the row copies'. -/
abbrev lensSem : DmaSem sig := cc0_scratch1.sem
abbrev rowsSem : DmaSem sig := cc0_scratch2.sem

/-- What one row's copy credits, and one length's staging. -/
abbrev rowN : ℕ := (oWin ![0, 0] inb_S16x1024_S1x1024_0_0).view.dmaCredit
theorem rowN_pos : 0 < rowN := View.dmaCredit_pos _ (show 0 < S1x1024.numel by decide)
abbrev lensN : ℕ := sW.view.dmaCredit
theorem lensN_pos : 0 < lensN := View.dmaCredit_pos _ (show 0 < S16.numel by decide)

variable (w : ℕ → BitVec 32) (hs : S16384x1024.Idx → Elt F .f32) (fo : S16x1024.Idx → Elt F .f32)

/-- Sequence `t`'s first row of the packed array, at the share its copy reads it at. -/
def src (t : Fin 16) : sProp 𝕄 := hW.view.loc (S d c) ↦[srcRow w t]{shareTok fullShare 16 t} hs
/-- The result's row `t` before its copy (at what the result held) and after (at the pooled array). -/
def old (t : Fin 16) : sProp 𝕄 := oW.view.loc (S d c) ↦[outRow t]{fullShare} fo
def new (t : Fin 16) : sProp 𝕄 := oW.view.loc (S d c) ↦[outRow t]{fullShare} pooled hs w

/-- What copy `t` is issued from, and what it delivers. -/
def todo (t : Fin 16) : sProp 𝕄 := iprop(src d c w hs t ∗ old d c fo t)
def done (t : Fin 16) : sProp 𝕄 := iprop(new d c w hs t ∗ src d c w hs t)

instance done_storable (t : Fin 16) : Storable (upEmb : UEmb _ 𝕄) (done d c w hs t) := by unfold done new src; infer_instance

/-- The batch with the first `k` copies issued and `j` waits made, -/
def flying (k j : ℕ) : sProp 𝕄 := Batch (Lvl := ℕ) EC (S d c) (.dma rowsSem) (none : HIx 1) rowN (done d c w hs) k (j * rowN)
/-- and before copy `k`: beside it, what the copies from `k` on are issued from. -/
def upTo (k : ℕ) : sProp 𝕄 := iprop(flying d c w hs k 0 ∗ bigSep (pending k) (todo d c w hs fo))

/-- From the semaphore at zero: the batch with no copy issued. -/
theorem flying_start : (semVal (S d c, .dma rowsSem) 0 : sProp 𝕄) ⊢ |={Set.univ}=> flying d c w hs 0 0 := by
  unfold flying
  rw [Nat.zero_mul]
  exact Transfers.batch_alloc' EC (S d c) (none : HIx 1) rowN (done d c w hs)

/-- ISSUE: sequence `t`'s copy, from its row of the packed array to the result's row `t`. -/
theorem issue {Q : PUnit → sProp 𝕄} (hw : InRange w) (t : ℕ) (ht : t < 16) {off doff : Fin 2 → ℕ} (hoff : off = ![(start w t).toNat, 0]) (hdoff : doff = ![t, 0]) (inb) (dinb)
    {hsrc : (hWin off inb).view.WordExact} {hdst : (oWin doff dinb).view.WordExact} {hsem} :
    upTo d c w hs fo t
      ⊢ iprop((upTo d c w hs fo (t + 1) -∗ Q ⟨⟩)
          -∗ wp frame (wpE (defs₀ (F := F)) 𝒱₀ (S d c) none) Set.univ
              (Prog.lift (.enqueueDma (hWin off inb) (.here (oWin doff dinb)) (.dma rowsSem) hsrc hdst hsem)) Q) := by
  have e := Transfers.bigSep_pending_step (todo d c w hs fo) t ht
  unfold upTo flying
  rw [e]
  unfold todo src old
  iintro ⟨HB, ⟨Hs, Ho⟩, Hp⟩ Hk
  iapply (Transfers.wp_dmaBatch EC 𝒱₀ (S d c) none (src := hWin off inb) (dst := oWin doff dinb) (via := ReadAs.same) (none : HIx 1) rowN rfl (fs := hs) (fd := fo)
    (q := shareTok fullShare 16 ⟨t, ht⟩) (Sd := outRow ⟨t, ht⟩) (D := done d c w hs) (j := t) (u := 0 * rowN)
    (Finset.Subset.antisymm_iff.mp (oWin_set ⟨t, ht⟩ hdoff dinb)).1 ht (by omega) ?_) $$ [HB Hs Ho]
  · unfold done new src
    rw [hWin_set w ⟨t, ht⟩ hoff inb]
    exact sep_mono (Entails.of_eq (pointsTo_congr fun i hi => landed_eq w hw ⟨t, ht⟩ hoff hdoff inb dinb hs fo i hi)) .rfl
  · rw [hWin_set w ⟨t, ht⟩ hoff inb]
    isplitl [Hs]; · iexact Hs
    isplitl [Ho]; · iexact Ho
    iexact HB
  iintro HB
  rw [wp_ret]; imodintro
  iapply Hk
  isplitl [HB] <;> iassumption

variable {O : CellTallies nD τ sig (HIx 1)} {W : Waits sig (HIx 1)}

/-- WAIT, but for the last: one more of the sixteen waits made. -/
theorem wait {Q : PUnit → sProp 𝕄} (j : ℕ) (hj : j + 1 < 16) {off doff : Fin 2 → ℕ} (inb) (dinb) {hsrc : (hWin off inb).view.WordExact} {hdst : (oWin doff dinb).view.WordExact} :
    iprop(MayWaits (S d c) (none : HIx 1) O ∗ flying d c w hs 16 j ∗ ∃ W, owes (S d c) O W)
      ⊢ iprop((iprop(flying d c w hs 16 (j + 1) ∗ ∃ W, owes (S d c) O W) -∗ Q ⟨⟩)
          -∗ wp frame (wpE (defs₀ (F := F)) 𝒱₀ (S d c) none) Set.univ
              (Prog.lift (.waitDma2 rowsSem (hWin off inb) (oWin doff dinb) hsrc hdst)) Q) := by
  have hN := rowN_pos
  unfold flying
  iintro ⟨Hmw, HB, ⟨%W, HO⟩⟩ Hk
  iapply (Transfers.wp_waitBatchO EC 𝒱₀ (S d c) none (dstw := oWin doff dinb) (none : HIx 1) (N := rowN) rfl (D := done d c w hs) (u := j * rowN)
    (by rw [← Nat.succ_mul, Nat.mul_comm rowN]; exact Nat.mul_lt_mul_of_pos_right hj hN) (O := O) (W := W)) $$ [Hmw HB HO]
  · isplitl [HB]; · iexact HB
    isplitl [HO]; · iexact HO
    iapply (MayWaits.elim (.dma rowsSem)) $$ Hmw
  iintro ⟨HB, HO⟩
  rw [wp_ret]; imodintro
  iapply Hk
  isplitl [HB]; · rw [Nat.succ_mul]; iexact HB
  iexists _; iexact HO

/-- WAIT, the last: every row delivered and the semaphore at zero. -/
theorem wait_last {Q : PUnit → sProp 𝕄} {off doff : Fin 2 → ℕ} (inb) (dinb) {hsrc : (hWin off inb).view.WordExact} {hdst : (oWin doff dinb).view.WordExact} :
    iprop(MayWaits (S d c) (none : HIx 1) O ∗ flying d c w hs 16 15 ∗ ∃ W, owes (S d c) O W)
      ⊢ iprop((iprop(bigSep Finset.univ (done d c w hs) ∗ semVal (S d c, .dma rowsSem) 0 ∗ ∃ W, owes (S d c) O W) -∗ Q ⟨⟩)
          -∗ wp frame (wpE (defs₀ (F := F)) 𝒱₀ (S d c) none) Set.univ
              (Prog.lift (.waitDma2 rowsSem (hWin off inb) (oWin doff dinb) hsrc hdst)) Q) := by
  unfold flying
  iintro ⟨Hmw, HB, ⟨%W, HO⟩⟩ Hk
  iapply (Transfers.wp_waitBatchLastO EC 𝒱₀ (S d c) none (dstw := oWin doff dinb) (none : HIx 1) (N := rowN) rfl rowN_pos (D := done d c w hs) (u := 15 * rowN)
    (by rw [← Nat.succ_mul, Nat.mul_comm rowN]) (O := O) (W := W)) $$ [Hmw HB HO]
  · isplitl [HB]; · iexact HB
    isplitl [HO]; · iexact HO
    iapply (MayWaits.elim (.dma rowsSem)) $$ Hmw
  iintro ⟨HD, Hv, HO⟩
  rw [wp_ret]; imodintro
  iapply Hk
  isplitl [HD]; · iexact HD
  isplitl [Hv]; · iexact Hv
  iexists _; iexact HO

/-! ## The lengths: staged, and read word by word -/

variable (lens : S16.Idx → Elt F .i32) (q : PosShare TreeShare)

/-- The lengths in HBM, and the scalar memory they are staged in, holding them. -/
def lensAt : sProp 𝕄 := lW.view.loc (S d c) ↦{fullShare} lens
def staged : sProp 𝕄 := sW.view.loc (S d c) ↦{fullShare} lens
/-- Staged, the scalar memory holds something. -/
theorem staged_any : staged d c lens ⊢ (∃ f, sW.view.loc (S d c) ↦{fullShare} f : sProp 𝕄) := by
  unfold staged
  iintro H; iexists lens; iexact H
/-- Their staging in flight. -/
def staging : sProp 𝕄 := Flight (Lvl := ℕ) EC (S d c) (.dma lensSem) (none : HIx 1) lensN iprop(staged d c lens ∗ lensAt d c lens)

/-- ISSUE of the lengths' staging. -/
theorem issue_lens {Q : PUnit → sProp 𝕄} (fsm : S16.Idx → Elt F .i32) {hsrc : lW.view.WordExact} {hdst : sW.view.WordExact} {hsem} :
    iprop(lensAt d c lens ∗ (sW.view.loc (S d c) ↦{fullShare} fsm) ∗ semVal (S d c, .dma lensSem) 0)
      ⊢ iprop((staging d c lens -∗ Q ⟨⟩)
          -∗ wp frame (wpE (defs₀ (F := F)) 𝒱₀ (S d c) none) Set.univ
              (Prog.lift (.enqueueDma lW (.here sW) (.dma lensSem) hsrc hdst hsem)) Q) := by
  have hset : lW.view.set = Finset.univ := View.set_whole _
  have e : sW.view.write (Elt F) fsm ((ReadAs.same (Val := Elt F)).apply (lW.view.read (Elt F) lens)) Finset.univ = lens := View.write_whole_univ _ _ _
  unfold lensAt staging staged
  iintro ⟨Hl, Hs, Hv⟩ Hk
  iapply (Transfers.wp_dmaLocal EC 𝒱₀ (S d c) none (src := lW) (dst := sW) (via := ReadAs.same) (none : HIx 1) lensN rfl lensN_pos (fs := lens) (fd := fsm)
    (q := fullShare) (Sd := Finset.univ) (Finset.subset_univ _)) $$ [Hl Hs Hv]
  · isplitl [Hl]; · rw [hset]; iexact Hl
    isplitl [Hs]; · iexact Hs
    iexact Hv
  rw [e, hset]
  iintro HF
  rw [wp_ret]; imodintro
  iapply Hk
  iexact HF

/-- WAIT for the staging: the scalar memory holds the lengths. -/
theorem wait_lens {Q : PUnit → sProp 𝕄} {hsrc : lW.view.WordExact} {hdst : sW.view.WordExact} :
    iprop(MayWaits (S d c) (none : HIx 1) O ∗ staging d c lens ∗ owes (S d c) O W)
      ⊢ iprop((iprop(staged d c lens ∗ lensAt d c lens ∗ semVal (S d c, .dma lensSem) 0 ∗ ∃ W, owes (S d c) O W) -∗ Q ⟨⟩)
          -∗ wp frame (wpE (defs₀ (F := F)) 𝒱₀ (S d c) none) Set.univ
              (Prog.lift (.waitDma2 lensSem lW sW hsrc hdst)) Q) := by
  unfold staging
  iintro ⟨Hmw, HF, HO⟩ Hk
  iapply (Transfers.wp_waitLocalO EC 𝒱₀ (S d c) none (dstw := sW) (none : HIx 1) (N := lensN) rfl (O := O) (W := W)) $$ [Hmw HF HO]
  · isplitl [HF]; · iexact HF
    isplitl [HO]; · iexact HO
    iapply (MayWaits.elim (.dma lensSem)) $$ Hmw
  iintro ⟨⟨Hs, Hl⟩, Hv, HO⟩
  rw [wp_ret]; imodintro
  iapply Hk
  isplitl [Hs]; · iexact Hs
  isplitl [Hl]; · iexact Hl
  isplitl [Hv]; · iexact Hv
  iexists _; iexact HO

/-- READ of length `k`. -/
theorem load (k : ℕ) (hk : k < 16) {off : Fin 1 → ℕ} (hoff : off = ![k]) (inb) {h1 : (Rect.unit (s := S16) off S1.size inb).shape.numel = 1} {hp} {QL : Elt F .i32 → sProp 𝕄} :
    staged d c lens
      ⊢ iprop((staged d c lens -∗ QL (word lens k))
          -∗ wp frame (wpE (defs₀ (F := F)) 𝒱₀ (S d c) none) Set.univ
              (smemLoad sW (Rect.unit (s := S16) off S1.size inb) h1 hp) QL) := by
  subst hoff
  have e : (sW.access (Rect.unit (s := S16) ![k] S1.size inb)).read (Elt F) lens (Shape.Idx.first (h1.symm ▸ Nat.one_pos)) = word lens k := by
    unfold word
    rw [dif_pos hk]
    refine congrArg lens (funext fun a => Fin.ext ?_)
    match a with
    | ⟨0, _⟩ => show k + _ = k; simp
  unfold staged smemLoad
  iintro Hs Hk
  iapply (wp_smemLoadElt 𝒱₀ (S d c) none Set.univ (m := sW) (r := Rect.unit (s := S16) ![k] S1.size inb) (S := Finset.univ) (q := fullShare) (f := lens) (Finset.subset_univ _)) $$ Hs
  rw [e]
  iintro Hs
  rw [wp_ret]; imodintro
  iapply Hk
  iexact Hs

/-- CHECK: a test that holds is passed with its proof. -/
theorem check {p : Prop} {dp : Decidable p} (h : p) {QC : PLift p → sProp 𝕄} :
    (QC ⟨h⟩ : sProp 𝕄) ⊢ wp frame (wpE (defs₀ (F := F)) 𝒱₀ (S d c) none) Set.univ (Prog.lift (TpuEff.assume p dp)) QC := by
  refine (show (QC ⟨h⟩ : sProp 𝕄) ⊢ _ from ?_).trans (wp_assume 𝒱₀ (S d c) none Set.univ (k := .ret) h)
  rw [wp_ret]
  iintro H
  imodintro
  iexact H

/-- ONE SEQUENCE: length `t` read, the check passed that the next copy's windows lie inside the packed array, and copy
    `t + 1` issued at the sum of the lengths read so far. -/
theorem next (fo : S16x1024.Idx → Elt F .f32) (hw : InRange (word lens)) (t : ℕ) (ht : t + 1 < 16) {loff : Fin 1 → ℕ} (hloff : loff = ![t]) (linb) {h1 : (Rect.unit (s := S16) loff S1.size linb).shape.numel = 1} {hp}
    {chk : Elt F .i32 → Prop} {dchk : ∀ v, Decidable (chk v)} (hc : chk (word lens t))
    {off : Elt F .i32 → Fin 2 → ℕ} (hoff : off (word lens t) = ![(start (word lens) (t + 1)).toNat, 0]) {doff : Fin 2 → ℕ} (hdoff : doff = ![t + 1, 0])
    {inb : ∀ v, PLift (chk v) → ∀ a, off v a + S1x1024.size a ≤ S16384x1024.size a} {dinb}
    {hsrc : ∀ v (h : PLift (chk v)), (hWin (off v) (inb v h)).view.WordExact} {hdst : (oWin doff dinb).view.WordExact} {hsem}
    {Q : ∀ v : Elt F .i32, PLift (chk v) → sProp 𝕄} :
    iprop(staged d c lens ∗ upTo d c (word lens) hs fo (t + 1))
      ⊢ iprop((iprop(staged d c lens ∗ upTo d c (word lens) hs fo (t + 1 + 1)) -∗ Q (word lens t) ⟨hc⟩)
          -∗ wp frame (wpE (defs₀ (F := F)) 𝒱₀ (S d c) none) Set.univ (smemLoad sW (Rect.unit (s := S16) loff S1.size linb) h1 hp) fun v =>
            wp frame (wpE (defs₀ (F := F)) 𝒱₀ (S d c) none) Set.univ (Prog.lift (TpuEff.assume (chk v) (dchk v))) fun h =>
              wp frame (wpE (defs₀ (F := F)) 𝒱₀ (S d c) none) Set.univ
                (Prog.lift (.enqueueDma (hWin (off v) (inb v h)) (.here (oWin doff dinb)) (.dma rowsSem) (hsrc v h) hdst hsem)) fun _ => Q v h) := by
  iintro ⟨HS, HR⟩ Hk
  iapply (load d c lens t (by omega) hloff linb) $$ HS
  iintro HS
  iapply (check d c hc)
  iapply (issue d c (word lens) hs fo hw (t + 1) ht hoff hdoff (inb _ ⟨hc⟩) dinb) $$ HR
  iintro HR
  iapply Hk
  isplitl [HS] <;> iassumption

end Cert.Proof.Steps

end
-- ==== Proof.Shares.lean ====
/-
  Dealing the two arrays to the sixteen copies, and collecting them: each copy reads its row of the packed array at a
  share of its own (two sequences may begin at one row: an empty sequence begins where the next one does), and owns its
  row of the result.
-/
module

public import proofs.«01_k».proof.Proof.Steps

@[expose] public section

noncomputable section

namespace Cert.Proof.Steps

open Cert.KernelIdeal Cert.KernelIdeal.Gen Cert.Proof.Starts Cert.Proof.Rows

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pending)
open Idealize.ShloMosaic.Tactic

variable {F : FTy → Type} [FloatOps F]

local notation "𝕄" => MT nD τ sig (HIx 1) (Elt F) ℕ UU ℕ

variable (d : Dev nD) (c : Fin τ.nSC)
variable (w : ℕ → BitVec 32) (hs : S16384x1024.Idx → Elt F .f32) (fo : S16x1024.Idx → Elt F .f32)

/-- What of the packed array no copy reads: the share left over, and each copy's share of the other rows. -/
def rest : sProp 𝕄 :=
  iprop((hW.view.loc (S d c) ↦{shareDrop fullShare 16} hs)
    ∗ bigSep Finset.univ fun t : Fin 16 => hW.view.loc (S d c) ↦[Finset.univ \ srcRow w t]{shareTok fullShare 16 t} hs)

/-- One copy's share of the whole packed array is its row and the other rows. -/
theorem token_split (t : Fin 16) :
    (hW.view.loc (S d c) ↦{shareTok fullShare 16 t} hs : sProp 𝕄)
      ⊣⊢ iprop(src d c w hs t ∗ hW.view.loc (S d c) ↦[Finset.univ \ srcRow w t]{shareTok fullShare 16 t} hs) :=
  pointsTo_split_subset (Finset.subset_univ _)

/-- Every copy's share of the whole packed array is every copy's row and the other rows; -/
theorem tokens_split :
    (bigSep Finset.univ fun t : Fin 16 => hW.view.loc (S d c) ↦{shareTok fullShare 16 t} hs : sProp 𝕄)
      ⊢ iprop(bigSep Finset.univ (src d c w hs)
          ∗ bigSep Finset.univ fun t : Fin 16 => hW.view.loc (S d c) ↦[Finset.univ \ srcRow w t]{shareTok fullShare 16 t} hs) :=
  (bigSep_mono fun t _ => (token_split d c w hs t).1).trans (Entails.of_eq (bigSep_sep' _ _ _))
/-- and back. -/
theorem tokens_join :
    iprop(bigSep Finset.univ (src d c w hs)
          ∗ bigSep Finset.univ fun t : Fin 16 => hW.view.loc (S d c) ↦[Finset.univ \ srcRow w t]{shareTok fullShare 16 t} hs)
      ⊢ (bigSep Finset.univ fun t : Fin 16 => hW.view.loc (S d c) ↦{shareTok fullShare 16 t} hs : sProp 𝕄) :=
  (Entails.of_eq (bigSep_sep' _ _ _).symm).trans (bigSep_mono fun t _ => (token_split d c w hs t).2)

/-- The packed array whole is every copy's row of it and the rest; -/
theorem deal_src : (hW.view.loc (S d c) ↦{fullShare} hs : sProp 𝕄) ⊢ iprop(bigSep Finset.univ (src d c w hs) ∗ rest d c w hs) := by
  unfold rest
  iintro H
  ihave H' := (Transfers.pointsTo_toks_split fullShare 16) $$ H
  icases H' with ⟨Hd, Ht⟩
  ihave Ht' := (tokens_split d c w hs) $$ Ht
  icases Ht' with ⟨Hs, Hr⟩
  isplitl [Hs]; · iexact Hs
  isplitl [Hd] <;> iassumption

/-- and back. -/
theorem collect_src : iprop(bigSep Finset.univ (src d c w hs) ∗ rest d c w hs) ⊢ (hW.view.loc (S d c) ↦{fullShare} hs : sProp 𝕄) := by
  unfold rest
  iintro ⟨Hs, Hd, Hr⟩
  iapply (Transfers.pointsTo_toks_join fullShare 16)
  isplitl [Hd]; · iexact Hd
  iapply (tokens_join d c w hs)
  isplitl [Hs] <;> iassumption

/-- The result whole is its sixteen rows, -/
theorem rows_eq (f : S16x1024.Idx → Elt F .f32) :
    (oW.view.loc (S d c) ↦{fullShare} f : sProp 𝕄) = bigSep Finset.univ fun t : Fin 16 => oW.view.loc (S d c) ↦[outRow t]{fullShare} f := by
  refine Eq.trans ?_ (pointsTo_biUnion (ℓ := oW.view.loc (S d c)) (q := fullShare) (f := f) Finset.univ outRow fun t _ t' _ h => outRow_disjoint t t' h)
  refine congrArg (fun I => (oW.view.loc (S d c) ↦[I]{fullShare} f : sProp 𝕄)) (Finset.eq_univ_iff_forall.mpr fun i => ?_).symm
  exact Finset.mem_biUnion.mpr ⟨⟨(i 0).val, (i 0).isLt⟩, Finset.mem_univ _, Finset.mem_filter.mpr ⟨Finset.mem_univ _, rfl⟩⟩

/-- before the copies -/
theorem deal_old : (oW.view.loc (S d c) ↦{fullShare} fo : sProp 𝕄) = bigSep Finset.univ (old d c fo) := rows_eq d c fo

/-- and after them. -/
theorem collect_new : (bigSep Finset.univ (new d c w hs) : sProp 𝕄) = oW.view.loc (S d c) ↦{fullShare} pooled hs w := (rows_eq d c (pooled hs w)).symm

/-- From the two arrays whole and the rows' semaphore at zero: no copy issued, and what no copy reads. -/
theorem enter :
    iprop((hW.view.loc (S d c) ↦{fullShare} hs) ∗ (oW.view.loc (S d c) ↦{fullShare} fo) ∗ semVal (S d c, .dma rowsSem) 0)
      ⊢ (|={Set.univ}=> iprop(upTo d c w hs fo 0 ∗ rest d c w hs) : sProp 𝕄) := by
  unfold upTo
  rw [Transfers.pending_zero, deal_old]
  iintro ⟨Hh, Ho, Hv⟩
  imod (flying_start d c w hs) $$ Hv with HB
  imodintro
  ihave Hh' := (deal_src d c w hs) $$ Hh
  icases Hh' with ⟨Hs, Hr⟩
  isplitr [Hr]
  · isplitl [HB]; · iexact HB
    unfold todo
    iapply (Entails.of_eq (bigSep_sep' _ _ _).symm)
    isplitl [Hs] <;> iassumption
  iexact Hr

/-- With every copy issued, nothing is left to issue. -/
theorem upTo_all : upTo d c w hs fo 16 ⊢ flying d c w hs 16 0 := by
  unfold upTo
  iintro ⟨HB, -⟩
  iexact HB

/-- From every row delivered: the packed array whole again, and the result whole at the pooled array. -/
theorem leave :
    iprop(bigSep Finset.univ (done d c w hs) ∗ rest d c w hs)
      ⊢ (iprop((hW.view.loc (S d c) ↦{fullShare} hs) ∗ oW.view.loc (S d c) ↦{fullShare} pooled hs w) : sProp 𝕄) := by
  unfold done
  iintro ⟨HD, Hr⟩
  ihave HD' := (Entails.of_eq (bigSep_sep' _ _ _)) $$ HD
  icases HD' with ⟨Hn, Hs⟩
  isplitl [Hs Hr]
  · iapply (collect_src d c w hs)
    isplitl [Hs] <;> iassumption
  iapply (Entails.of_eq (collect_new d c w hs))
  iexact Hn

end Cert.Proof.Steps

end
-- ==== Proof.Body.lean ====
/-
  The kernel's body, statement by statement: the lengths staged, the sixteen row copies issued, each at the sum of the
  lengths read so far, and waited for. From the packed array, the result and the lengths whole it comes to the same with
  the result at the pooled array, provided that every sequence begins inside the packed array.
-/
module

public import proofs.«01_k».proof.Proof.Shares

@[expose] public section

noncomputable section

namespace Cert.Proof.Steps

open Cert.KernelIdeal Cert.KernelIdeal.Gen Cert.Proof.Starts Cert.Proof.Rows

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (MayWaits)
open Idealize.ShloMosaic.Tactic

variable {F : FTy → Type} [FloatOps F]

local notation "𝕄" => MT nD τ sig (HIx 1) (Elt F) ℕ UU ℕ

variable (d : Dev nD) (i : grid0.Coords)

/-- The body on a SparseCore's sequencer: from the lengths, the packed array and the result whole, the scalar memory at
    anything and both semaphores at zero, to the same with the result at the pooled array. -/
theorem body_run (lens : S16.Idx → Elt F .i32) (hw : InRange (word lens)) (hs : S16384x1024.Idx → Elt F .f32) (fo : S16x1024.Idx → Elt F .f32)
    (fsm : S16.Idx → Elt F .i32) (O : CellTallies nD τ sig (HIx 1)) (W : Waits sig (HIx 1)) :
    iprop(MayWaits (S d ((i 0).castLE hcore0)) (none : HIx 1) O
        ∗ lensAt d ((i 0).castLE hcore0) lens
        ∗ (sW.view.loc (S d ((i 0).castLE hcore0)) ↦{fullShare} fsm) ∗ semVal (S d ((i 0).castLE hcore0), .dma lensSem) 0
        ∗ (hW.view.loc (S d ((i 0).castLE hcore0)) ↦{fullShare} hs) ∗ (oW.view.loc (S d ((i 0).castLE hcore0)) ↦{fullShare} fo)
        ∗ semVal (S d ((i 0).castLE hcore0), .dma rowsSem) 0
        ∗ owes (S d ((i 0).castLE hcore0)) O W)
      ⊢ (wp frame (wpE (defs₀ (F := F)) 𝒱₀ (S d ((i 0).castLE hcore0)) none) Set.univ
          (cc0__pooler i lW (Memref.isWhole_whole _) hW (Memref.isWhole_whole _) oW (Memref.isWhole_whole _)
            sW (Memref.isWhole_whole _) cc0_scratch1 cc0_scratch2)
          fun _ => iprop(lensAt d ((i 0).castLE hcore0) lens
            ∗ (∃ f, sW.view.loc (S d ((i 0).castLE hcore0)) ↦{fullShare} f) ∗ semVal (S d ((i 0).castLE hcore0), .dma lensSem) 0
            ∗ (hW.view.loc (S d ((i 0).castLE hcore0)) ↦{fullShare} hs)
            ∗ (oW.view.loc (S d ((i 0).castLE hcore0)) ↦{fullShare} pooled hs (word lens))
            ∗ semVal (S d ((i 0).castLE hcore0), .dma rowsSem) 0
            ∗ ∃ W', owes (S d ((i 0).castLE hcore0)) O W') : sProp 𝕄) := by
  unfold cc0__pooler
  simp only [wp_bind, wp_pure]
  iintro ⟨#Hmw, Hl, Hsm, Hvl, Hh, Ho, Hvr, HO⟩
  imod (enter d _ (word lens) hs fo) $$ [Hh Ho Hvr] with ⟨HR, Hrest⟩
  · isplitl [Hh]; · iexact Hh
    isplitl [Ho] <;> iassumption
  unfold k0_part1
  simp only [wp_bind, wp_pure]
  iapply (issue_lens d _ lens fsm) $$ [Hl Hsm Hvl]
  · isplitl [Hl]; · iexact Hl
    isplitl [Hsm] <;> iassumption
  iintro Hf
  iapply (issue d _ (word lens) hs fo hw 0 (by decide) rfl rfl) $$ HR
  iintro HR
  iapply (wait_lens d _ lens) $$ [Hf HO]
  · isplitr; · iexact Hmw
    isplitl [Hf] <;> iassumption
  iintro ⟨HS, Hl, Hvl, HO⟩
  iapply (next d _ hs lens fo hw 0 (by decide) rfl _ ?hc ?ho rfl) $$ [HS HR]
  case hc => exact ⟨row_inb hw 1 (by decide) rfl, row_inb hw 1 (by decide) rfl⟩
  case ho => rfl
  · isplitl [HS] <;> iassumption
  iintro ⟨HS, HR⟩
  iapply (next d _ hs lens fo hw 1 (by decide) rfl _ ?hc ?ho rfl) $$ [HS HR]
  case hc => exact ⟨row_inb hw 2 (by decide) rfl, row_inb hw 2 (by decide) rfl⟩
  case ho => rfl
  · isplitl [HS] <;> iassumption
  iintro ⟨HS, HR⟩
  iapply (next d _ hs lens fo hw 2 (by decide) rfl _ ?hc ?ho rfl) $$ [HS HR]
  case hc => exact ⟨row_inb hw 3 (by decide) rfl, row_inb hw 3 (by decide) rfl⟩
  case ho => rfl
  · isplitl [HS] <;> iassumption
  iintro ⟨HS, HR⟩
  iapply (next d _ hs lens fo hw 3 (by decide) rfl _ ?hc ?ho rfl) $$ [HS HR]
  case hc => exact ⟨row_inb hw 4 (by decide) rfl, row_inb hw 4 (by decide) rfl⟩
  case ho => rfl
  · isplitl [HS] <;> iassumption
  iintro ⟨HS, HR⟩
  iapply (load d _ lens 4 (by decide) rfl) $$ HS
  iintro HS
  iapply (check d _ ?hc)
  case hc => exact ⟨row_inb hw 5 (by decide) rfl, row_inb hw 5 (by decide) rfl⟩
  imodintro
  unfold k0_part2
  simp only [wp_bind, wp_pure]
  iapply (issue d _ (word lens) hs fo hw 5 (by decide) rfl rfl) $$ HR
  iintro HR
  iapply (next d _ hs lens fo hw 5 (by decide) rfl _ ?hc ?ho rfl) $$ [HS HR]
  case hc => exact ⟨row_inb hw 6 (by decide) rfl, row_inb hw 6 (by decide) rfl⟩
  case ho => rfl
  · isplitl [HS] <;> iassumption
  iintro ⟨HS, HR⟩
  iapply (next d _ hs lens fo hw 6 (by decide) rfl _ ?hc ?ho rfl) $$ [HS HR]
  case hc => exact ⟨row_inb hw 7 (by decide) rfl, row_inb hw 7 (by decide) rfl⟩
  case ho => rfl
  · isplitl [HS] <;> iassumption
  iintro ⟨HS, HR⟩
  iapply (next d _ hs lens fo hw 7 (by decide) rfl _ ?hc ?ho rfl) $$ [HS HR]
  case hc => exact ⟨row_inb hw 8 (by decide) rfl, row_inb hw 8 (by decide) rfl⟩
  case ho => rfl
  · isplitl [HS] <;> iassumption
  iintro ⟨HS, HR⟩
  iapply (next d _ hs lens fo hw 8 (by decide) rfl _ ?hc ?ho rfl) $$ [HS HR]
  case hc => exact ⟨row_inb hw 9 (by decide) rfl, row_inb hw 9 (by decide) rfl⟩
  case ho => rfl
  · isplitl [HS] <;> iassumption
  iintro ⟨HS, HR⟩
  iapply (next d _ hs lens fo hw 9 (by decide) rfl _ ?hc ?ho rfl) $$ [HS HR]
  case hc => exact ⟨row_inb hw 10 (by decide) rfl, row_inb hw 10 (by decide) rfl⟩
  case ho => rfl
  · isplitl [HS] <;> iassumption
  iintro ⟨HS, HR⟩
  imodintro
  unfold k0_part3
  simp only [wp_bind, wp_pure]
  iapply (next d _ hs lens fo hw 10 (by decide) rfl _ ?hc ?ho rfl) $$ [HS HR]
  case hc => exact ⟨row_inb hw 11 (by decide) rfl, row_inb hw 11 (by decide) rfl⟩
  case ho => rfl
  · isplitl [HS] <;> iassumption
  iintro ⟨HS, HR⟩
  iapply (next d _ hs lens fo hw 11 (by decide) rfl _ ?hc ?ho rfl) $$ [HS HR]
  case hc => exact ⟨row_inb hw 12 (by decide) rfl, row_inb hw 12 (by decide) rfl⟩
  case ho => rfl
  · isplitl [HS] <;> iassumption
  iintro ⟨HS, HR⟩
  iapply (next d _ hs lens fo hw 12 (by decide) rfl _ ?hc ?ho rfl) $$ [HS HR]
  case hc => exact ⟨row_inb hw 13 (by decide) rfl, row_inb hw 13 (by decide) rfl⟩
  case ho => rfl
  · isplitl [HS] <;> iassumption
  iintro ⟨HS, HR⟩
  iapply (next d _ hs lens fo hw 13 (by decide) rfl _ ?hc ?ho rfl) $$ [HS HR]
  case hc => exact ⟨row_inb hw 14 (by decide) rfl, row_inb hw 14 (by decide) rfl⟩
  case ho => rfl
  · isplitl [HS] <;> iassumption
  iintro ⟨HS, HR⟩
  iapply (next d _ hs lens fo hw 14 (by decide) rfl _ ?hc ?ho rfl) $$ [HS HR]
  case hc => exact row_inb hw 15 (by decide) rfl
  case ho => rfl
  · isplitl [HS] <;> iassumption
  iintro ⟨HS, HR⟩
  iapply (load d _ lens 15 (by decide) rfl) $$ HS
  iintro HS
  imodintro
  unfold k0_part4
  simp only [wp_bind, wp_pure]
  ihave HF := (upTo_all d _ (word lens) hs fo) $$ HR
  iapply (wait d _ (word lens) hs 0 (by decide)) $$ [HF HO]
  · isplitr; · iexact Hmw
    isplitl [HF] <;> iassumption
  iintro ⟨HF, HO⟩
  iapply (wait d _ (word lens) hs 1 (by decide)) $$ [HF HO]
  · isplitr; · iexact Hmw
    isplitl [HF] <;> iassumption
  iintro ⟨HF, HO⟩
  iapply (wait d _ (word lens) hs 2 (by decide)) $$ [HF HO]
  · isplitr; · iexact Hmw
    isplitl [HF] <;> iassumption
  iintro ⟨HF, HO⟩
  iapply (wait d _ (word lens) hs 3 (by decide)) $$ [HF HO]
  · isplitr; · iexact Hmw
    isplitl [HF] <;> iassumption
  iintro ⟨HF, HO⟩
  iapply (wait d _ (word lens) hs 4 (by decide)) $$ [HF HO]
  · isplitr; · iexact Hmw
    isplitl [HF] <;> iassumption
  iintro ⟨HF, HO⟩
  iapply (wait d _ (word lens) hs 5 (by decide)) $$ [HF HO]
  · isplitr; · iexact Hmw
    isplitl [HF] <;> iassumption
  iintro ⟨HF, HO⟩
  iapply (wait d _ (word lens) hs 6 (by decide)) $$ [HF HO]
  · isplitr; · iexact Hmw
    isplitl [HF] <;> iassumption
  iintro ⟨HF, HO⟩
  iapply (wait d _ (word lens) hs 7 (by decide)) $$ [HF HO]
  · isplitr; · iexact Hmw
    isplitl [HF] <;> iassumption
  iintro ⟨HF, HO⟩
  iapply (wait d _ (word lens) hs 8 (by decide)) $$ [HF HO]
  · isplitr; · iexact Hmw
    isplitl [HF] <;> iassumption
  iintro ⟨HF, HO⟩
  iapply (wait d _ (word lens) hs 9 (by decide)) $$ [HF HO]
  · isplitr; · iexact Hmw
    isplitl [HF] <;> iassumption
  iintro ⟨HF, HO⟩
  imodintro
  iapply (wait d _ (word lens) hs 10 (by decide)) $$ [HF HO]
  · isplitr; · iexact Hmw
    isplitl [HF] <;> iassumption
  iintro ⟨HF, HO⟩
  iapply (wait d _ (word lens) hs 11 (by decide)) $$ [HF HO]
  · isplitr; · iexact Hmw
    isplitl [HF] <;> iassumption
  iintro ⟨HF, HO⟩
  iapply (wait d _ (word lens) hs 12 (by decide)) $$ [HF HO]
  · isplitr; · iexact Hmw
    isplitl [HF] <;> iassumption
  iintro ⟨HF, HO⟩
  iapply (wait d _ (word lens) hs 13 (by decide)) $$ [HF HO]
  · isplitr; · iexact Hmw
    isplitl [HF] <;> iassumption
  iintro ⟨HF, HO⟩
  iapply (wait d _ (word lens) hs 14 (by decide)) $$ [HF HO]
  · isplitr; · iexact Hmw
    isplitl [HF] <;> iassumption
  iintro ⟨HF, HO⟩
  iapply (wait_last d _ (word lens) hs) $$ [HF HO]
  · isplitr; · iexact Hmw
    isplitl [HF] <;> iassumption
  iintro ⟨HD, Hvr, HO⟩
  imodintro
  ihave H := (leave d _ (word lens) hs) $$ [HD Hrest]
  · isplitl [HD] <;> iassumption
  icases H with ⟨Hh, Ho⟩
  isplitl [Hl]; · iexact Hl
  isplitl [HS]; · iapply (staged_any d _ lens); iexact HS
  isplitl [Hvl]; · iexact Hvl
  isplitl [Hh]; · iexact Hh
  isplitl [Ho]; · iexact Ho
  isplitl [Hvr]; · iexact Hvr
  iexact HO

end Cert.Proof.Steps

end
-- ==== Proof.Launch.lean ====
/-
  The whole program: the call hands the lengths, the packed array and the result to SparseCore 0's sequencer, which runs
  the body, and has them back with the result at the pooled array. Every execution ends, whatever the interleaving, with
  the arguments unchanged, the result the pooled array and every semaphore at zero, provided that every sequence begins
  inside the packed array.
-/
module

public import proofs.«01_k».proof.Proof.Body

@[expose] public section

noncomputable section

namespace Cert.Proof.Launch

open Cert.KernelIdeal Cert.KernelIdeal.Gen Cert.Proof.Starts Cert.Proof.Rows Cert.Proof.Steps

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem reads it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

/-- The launch's handshakes in the algebra. -/
abbrev EH : Emb UH (MT nD τ sig (HIx 1) (Elt F) ℕ UU ℕ) := embL

variable (m : (ℓ : Loc nD τ sig) → Buf (Elt F) ℓ) (ρ : Dev nD → PrngReg)

/-- The packed rows, the lengths and the result, as the TensorCore names them; the sequencer's scalar memory. -/
abbrev hLoc (d : Dev nD) : Loc nD τ sig := (SparseCore.T d).loc main_arg0
abbrev lLoc (d : Dev nD) : Loc nD τ sig := (SparseCore.T d).loc main_arg1
abbrev oLoc (d : Dev nD) : Loc nD τ sig := (SparseCore.T d).loc main_v0
abbrev sLoc (d : Dev nD) (c : Fin τ.nSC) : Loc nD τ sig := (S d c).loc cc0_scratch0

/-- The lengths at launch, by number; the pooled array of the launch contents. -/
abbrev wordsOf (d : Dev nD) : ℕ → BitVec 32 := word (m (lLoc d))
abbrev resultOf (d : Dev nD) : Buf (Elt F) (oLoc d) := pooled (m (hLoc d)) (wordsOf m d)

variable [FloatOps F]

/-- The two arguments whole at their launch contents. -/
abbrev args (d : Dev nD) : sProp 𝕄 := iprop((hLoc d ↦{fullShare} m (hLoc d)) ∗ lLoc d ↦{fullShare} m (lLoc d))

/-- What the call hands over: the arguments and the result at anything; what it hands back: the result at the pooled array. -/
def P : (K (F := F)).Pay (nD := nD) (Val := Elt F) (Name := ℕ) (U := UU) where
  st := fun _ d _ => iprop(args m d ∗ ∃ f, oLoc d ↦{fullShare} f)
  dn := fun _ d _ => iprop(args m d ∗ oLoc d ↦{fullShare} resultOf m d)
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The body, as the launch asks for it -/

section Body

variable (d : Dev nD)

/-- The kernel's coordinates at SparseCore `c`. -/
def coords (c : Fin (grid0.bound 0)) : grid0.Coords := fun | 0 => c | ⟨_ + 1, h⟩ => absurd h (Nat.not_lt.2 (Nat.le_add_left _ _))

/-- The sequencer's two semaphores, by number. -/
abbrev cell (c : Fin τ.nSC) (k : Fin 2) : GSem nD τ sig := (S d c, .dma (⟨k.val, k.isLt⟩ : DmaSem sig))

omit [FloatOps F] in
theorem cell_mem (c : Fin τ.nSC) (k : Fin 2) : cell d c k ∈ ownCells (S d c) :=
  mem_ownCells.mpr ⟨rfl, (show ∀ s : DmaSem sig, (SemLoc.dma s : SemLoc sig).isScoped .scScalar = true by decide) _⟩

omit [FloatOps F] in
/-- The sequencer's own semaphores at zero: the lengths', the rows' and the rest. -/
theorem ownSems0_S (c : Fin τ.nSC) :
    (ownSems0 (S d c) : sProp 𝕄)
      = iprop((semVal (S d c, SemLoc.dma lensSem) 0 ∗ semVal (S d c, SemLoc.dma rowsSem) 0)
          ∗ bigSep ((ownCells (S d c)) \ Finset.univ.image (cell d c)) fun g => semVal g 0) := by
  unfold SparseCore.Cfg.ownSems0
  rw [SparseCore.bigSep_sdiff_split' (t := Finset.univ.image (cell d c)) (Finset.image_subset_iff.mpr fun k _ => cell_mem d c k),
    SparseCore.bigSep_image_of_injOn (fun a _ b _ h => by
      have := congrArg (fun g : GSem nD τ sig => g.2) h
      simp only [SemLoc.dma.injEq, Fin.mk.injEq] at this; exact Fin.ext this),
    show (Finset.univ : Finset (Fin 2)) = {0, 1} by decide, SparseCore.bigSep_insert' (by decide), bigSep_singleton]
  rfl

omit [FloatOps F] in
/-- The sequencer's own buffers: its scalar memory, at some contents, and the rest. -/
theorem ownBufs_S (c : Fin τ.nSC) :
    (ownBufs (S d c) : sProp 𝕄)
      = iprop((∃ f, sLoc d c ↦{fullShare} f)
          ∗ bigSep ((ownRefs (τ := τ) (.scScalar c)).erase ((Proc.scScalar c).devRef cc0_scratch0)) fun b => iprop(∃ f, ((d, b) : Loc nD τ sig) ↦{fullShare} f)) := by
  unfold SparseCore.Cfg.ownBufs
  exact SparseCore.bigSep_erase' ((mem_ownRefs (p := Proc.scScalar c) (b := (Proc.scScalar c).devRef cc0_scratch0)).mpr rfl)

/-- The kernel on SparseCore 0's sequencer, in the launch's terms. -/
theorem sequencer (hw : InRange (wordsOf m d)) (hF : (K (F := F)).Facts) (c : Fin (grid0.bound 0))
    (O : CellTallies nD τ sig (HIx 1)) (W : Waits sig (HIx 1)) (hO : ∀ g, O g none = 0) :
    iprop(levAts (K (F := F)).L (K (F := F)).lev ∗ emp ∗ (args m d ∗ ∃ f, oLoc d ↦{fullShare} f)
        ∗ scopedBufs (S d (c.castLE hcore0)) ∗ scopedSems0 (S d (c.castLE hcore0)) ∗ owes (S d (c.castLE hcore0)) O W)
      ⊢ wp frame (wpE (defs₀ (F := F)) 𝒱₀ (S d (c.castLE hcore0)) none) Set.univ
          (cc0__pooler (coords c) lW (Memref.isWhole_whole _) hW (Memref.isWhole_whole _) oW (Memref.isWhole_whole _)
            sW (Memref.isWhole_whole _) cc0_scratch1 cc0_scratch2)
          fun _ => iprop((args m d ∗ oLoc d ↦{fullShare} resultOf m d) ∗ scopedBufs (S d (c.castLE hcore0)) ∗ scopedSems0 (S d (c.castLE hcore0))
            ∗ ∃ W', ⌜∀ p ∈ W', p ∈ W ∨ p.2 = none ∨ p.2 = some (0 : Fin 1)⌝ ∗ owes (S d (c.castLE hcore0)) O W') := by
  rw [(K (F := F)).scopedBufs_S hF d _, SparseCore.Cfg.scopedSems0_S (Val := Elt F) d _, ownSems0_S, ownBufs_S]
  iintro ⟨#Hlv, -, ⟨⟨Hh, Hl⟩, %fo, Ho⟩, ⟨⟨⟨%fs, Hs⟩, Hbufs⟩, Htiles⟩, ⟨⟨⟨Hvl, Hvr⟩, Hsems⟩, HtileSems⟩, HO⟩
  ihave Hmw := ((K (F := F)).mayWaits_none (thr := S d (c.castLE hcore0)) hO) $$ Hlv
  iapply (wp_wand_r Idealize.ShloMosaic.frame (wpE (defs₀ (F := F)) 𝒱₀ (S d (c.castLE hcore0)) none) Set.univ)
  isplitl [Hmw Hh Hl Ho Hs Hvl Hvr HO]
  · iapply (body_run d (coords c) (m (lLoc d)) hw (m (hLoc d)) fo fs O W)
    isplitl [Hmw]; · iexact Hmw
    isplitl [Hl]; · unfold lensAt; iexact Hl
    isplitl [Hs]; · iexact Hs
    isplitl [Hvl]; · iexact Hvl
    isplitl [Hh]; · iexact Hh
    isplitl [Ho]; · iexact Ho
    isplitl [Hvr]; · iexact Hvr
    iexact HO
  unfold lensAt
  iintro %_ ⟨Hl, ⟨%f, Hs⟩, Hvl, Hh, Ho, Hvr, %W', HO⟩
  isplitl [Hl Hh Ho]
  · isplitr [Ho]
    · isplitl [Hh]; · iexact Hh
      iexact Hl
    iexact Ho
  isplitl [Hs Hbufs Htiles]
  · isplitr [Htiles]
    · isplitl [Hs]; · iexists f; iexact Hs
      iexact Hbufs
    iexact Htiles
  isplitl [Hvl Hvr Hsems HtileSems]
  · isplitr [HtileSems]
    · isplitr [Hsems]
      · isplitl [Hvl]; · iexact Hvl
        iexact Hvr
      iexact Hsems
    iexact HtileSems
  iexists W'
  isplitr
  · ipureintro
    intro p _
    rcases p.2 with _ | q
    · exact .inr (.inl rfl)
    · exact .inr (.inr (congrArg some (Subsingleton.elim q 0)))
  · iexact HO

end Body

/-- The kernel's entry in the body table. -/
theorem defs₀_scalar (c : Fin τ.nSC) :
    defs₀ (F := F) (.scScalar c) 0 ()
      = SparseCore.onCore hcore0 (fun c => cc0__pooler (coords c) lW (Memref.isWhole_whole _) hW (Memref.isWhole_whole _) oW (Memref.isWhole_whole _)
          sW (Memref.isWhole_whole _) cc0_scratch1 cc0_scratch2) ⟨⟩ c := rfl

/-- What the launch asks of call 0's sequencer. -/
theorem scalarObl (hw : ∀ d, InRange (wordsOf m d)) : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact sequencer m d (hw d) facts ⟨_, hc⟩ O W hO

/-! ## The launch's ghost state, and @main -/

/-- The handshakes' initial state; the counters start empty. -/
def u₀ : UU := (initOf (K (F := F)).hsCells (K (F := F)).hsToks, 1)

omit [FloatOps F] in
/-- Nothing, any number of times. -/
theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

omit [FloatOps F] in
/-- The TensorCore's arrays outside any scope: the arguments and the result. -/
theorem unscopedBufs_eq (d : Dev nD) (W : (b : Ref sig .tc) → Buf (Elt F) ((d.tc : Thread nD τ).loc b)) :
    (unscopedBufs d W : sProp 𝕄) = iprop((hLoc d ↦{fullShare} W main_arg0) ∗ (lLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the call's one SparseCore takes, and hands back. -/
theorem st0_eq (d : Dev nD) : (bigSep Finset.univ fun c : Fin ((K (F := F)).nCore 0) => (P m).st 0 d c) = iprop(args m d ∗ ∃ f, oLoc d ↦{fullShare} f) :=
  bigSep_univ_of_subsingleton (0 : Fin 1)
theorem dn0_eq (d : Dev nD) : (bigSep Finset.univ fun c : Fin ((K (F := F)).nCore 0) => (P m).dn 0 d c) = iprop(args m d ∗ oLoc d ↦{fullShare} resultOf m d) :=
  bigSep_univ_of_subsingleton (0 : Fin 1)

/-- What @main ends with: the arguments at their launch contents, the result at the pooled array. -/
abbrev FIN (d : Dev nD) : sProp 𝕄 := iprop(args m d ∗ oLoc d ↦{fullShare} resultOf m d)

/-- @main on the TensorCore: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hh, Hl, Ho⟩, Hts, -⟩, -⟩
  iapply ((K (F := F)).wp_run (D (F := F)) 𝒱 (EH := EH) (P := P m) κ d 0) $$ [Hst Hh Hl Ho Hb Hts]
  isplitr; · iexact Hctx
  isplitl [Hst]; · iexact Hst
  isplitl [Hh Hl Ho]
  · rw [st0_eq]
    isplitr [Ho]
    · isplitl [Hh] <;> iassumption
    iexists _; iexact Ho
  iintro ⟨Hst, Hdn⟩
  ihave Hdn' := (Entails.of_eq (dn0_eq m d)) $$ Hdn
  imodintro
  isplitl [Hst]; · iexact Hst
  isplitl [Hdn']; · iexact Hdn'
  isplitl [Hb] <;> iassumption

/-! ## What a final state holds -/

/-- Device `d`'s arguments unchanged and its result the pooled array. -/
def fq (d : Dev nD) (s' : Phys nD τ sig (Elt F)) : Prop :=
  s'.mem.mem (hLoc d) = m (hLoc d) ∧ s'.mem.mem (lLoc d) = m (lLoc d) ∧ s'.mem.mem (oLoc d) = resultOf m d

/-- An array held whole at `f` is `f` in the state. -/
theorem agree (s' : Phys nD τ sig (Elt F)) (ℓ : Loc nD τ sig) (f : Buf (Elt F) ℓ) :
    iprop(SI s' ∗ ℓ ↦{fullShare} f) ⊢ (⌜s'.mem.mem ℓ = f⌝ : sProp 𝕄) := by
  iintro H
  ihave H' := (SI_pointsTo_agree (st := s') (ℓ := ℓ) (I := Finset.univ) (q := fullShare) (f := f)) $$ H
  icases H' with %h
  ipureintro; exact funext fun i => h i (Finset.mem_univ i)

theorem hfin (d : Dev nD) (s' : Phys nD τ sig (Elt F)) : iprop(FIN m d ∗ SI s') ⊢ (⌜fq m d s'⌝ : sProp 𝕄) := by
  have h1 : iprop(FIN m d ∗ SI s') ⊢ (⌜s'.mem.mem (hLoc d) = m (hLoc d)⌝ : sProp 𝕄) := by
    iintro ⟨⟨⟨Hh, -⟩, -⟩, HSI⟩
    iapply (agree s' (hLoc d) _); isplitl [HSI] <;> iassumption
  have h2 : iprop(FIN m d ∗ SI s') ⊢ (⌜s'.mem.mem (lLoc d) = m (lLoc d)⌝ : sProp 𝕄) := by
    iintro ⟨⟨⟨-, Hl⟩, -⟩, HSI⟩
    iapply (agree s' (lLoc d) _); isplitl [HSI] <;> iassumption
  have h3 : iprop(FIN m d ∗ SI s') ⊢ (⌜s'.mem.mem (oLoc d) = resultOf m d⌝ : sProp 𝕄) := by
    iintro ⟨⟨-, Ho⟩, HSI⟩
    iapply (agree s' (oLoc d) _); isplitl [HSI] <;> iassumption
  refine (show iprop(FIN m d ∗ SI s') ⊢ (iprop(⌜s'.mem.mem (hLoc d) = m (hLoc d)⌝ ∧ ⌜s'.mem.mem (lLoc d) = m (lLoc d)⌝ ∧ ⌜s'.mem.mem (oLoc d) = resultOf m d⌝) : sProp 𝕄)
    from BI.and_intro h1 (BI.and_intro h2 h3)).trans ?_
  iintro ⟨%a, %b, %c⟩
  ipureintro; exact ⟨a, b, c⟩

/-! ## The run -/

/-- Arguments unchanged, the result the pooled array, on every device; every semaphore at zero. -/
def Post : PUnit × MemSt nD τ sig (Elt F) → Prop := fun r =>
  (∀ c : Dev nD, r.2.mem (hLoc c) = m (hLoc c) ∧ r.2.mem (lLoc c) = m (lLoc c) ∧ r.2.mem (oLoc c) = resultOf m c) ∧ r.2.sem = fun _ => 0

/-- Every execution of the program ends, nothing faulting, at such a state, where every sequence begins inside the packed array. -/
theorem run_main [∀ e, Nonempty (Elt F e)] (hw : ∀ d, InRange (wordsOf m d)) :
    θ_run (Cert.KernelIdeal.defs (F := F)) (Cert.KernelIdeal.threads (F := F)) ⟨m, fun _ => 0, ρ⟩ (Post m) :=
  SparseCore.Cfg.θ_run_sc_quiescent (K := K (F := F)) (D := D (F := F)) (𝒱 := 𝒱) (EH := EH) (P := P m) (A := ∅) facts v₀
    (fun q _ => match q with | 0 => scalarObl m hw)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (Post m) (fun _ h hz => ⟨h, hz⟩)

end Cert.Proof.Launch

end
-- ==== Proof.Sums.lean ====
/-
  The starts as the reference computes them: a running sum of the lengths, its first fifteen entries written one place on
  over zeros. Entry `t` is the sum of the lengths before `t`, which is where sequence `t` begins.
-/
module

public import proofs.«01_k».proof.Proof.Gen.ReferenceIdeal
public import proofs.«01_k».proof.Proof.Starts
public import Idealize.ShloMosaic.Lib.Routing.OpsOne

@[expose] public section

noncomputable section

namespace Cert.Proof.Sums

open Cert.ReferenceIdeal Cert.ReferenceIdeal.Gen Cert.Proof.Starts
open Idealize.ShloMosaic Idealize.ShloMosaic.ValueIdx Idealize.ShloMosaic.Routing

/-- Where sequence `t` begins is the sum of the lengths before it. -/
theorem start_eq_sum (w : ℕ → BitVec 32) (t : ℕ) : start w t = ∑ i ∈ Finset.range t, w i := by
  induction t with
  | zero => rfl
  | succ t ih => rw [start_succ, Finset.sum_range_succ, ih]

/-- The lengths up to and including number `j`, added, are where sequence `j + 1` begins. -/
theorem sum_le_eq_start (lens : S16.Idx → BitVec 32) (j : Fin 16) :
    (∑ i : Fin 16, if i ≤ j then lens (ix1 i) else 0) = start (word lens) (j.val + 1) := by
  have hj := j.isLt
  have e : ∀ i : Fin 16, (if i ≤ j then lens (ix1 i) else 0) = (fun n : ℕ => if n ≤ j.val then word lens n else 0) i.val := fun i => by
    show _ = if i.val ≤ j.val then word lens i.val else 0
    rw [word, dif_pos i.isLt]
    rfl
  rw [Finset.sum_congr rfl fun i _ => e i, Fin.sum_univ_eq_sum_range (fun n : ℕ => if n ≤ j.val then word lens n else 0) 16,
    ← Finset.sum_filter, start_eq_sum]
  refine Finset.sum_congr (Finset.ext fun n => ?_) fun _ _ => rfl
  rw [Finset.mem_filter, Finset.mem_range, Finset.mem_range]
  omega

/-- Adding the values that pass a test, one after another, is adding the sum of those values. -/
theorem foldl_if_add {ι : Type} (P : ι → Prop) [DecidablePred P] (v : ι → BitVec 32) (l : List ι) (a : BitVec 32) :
    l.foldl (fun a n => if P n then IntOp.addi a (v n) else a) a = a + (l.map fun n => if P n then v n else 0).sum := by
  induction l generalizing a with
  | nil => exact (add_zero a).symm
  | cons n l ih =>
    rw [List.foldl_cons, ih, List.map_cons, List.sum_cons, ← add_assoc]
    by_cases h : P n
    · rw [if_pos h, if_pos h]; rfl
    · rw [if_neg h, if_neg h, add_zero]

/-- Where exactly one position passes the test, the values that pass sum to that position's. -/
theorem sum_one {n : ℕ} (P : Fin n → Prop) [DecidablePred P] (v : Fin n → BitVec 32) (k : Fin n) (hk : ∀ i, P i ↔ i = k) :
    ((List.finRange n).map fun i => if P i then v i else 0).sum = v k := by
  rw [← List.ofFn_eq_map, List.sum_ofFn, Finset.sum_eq_single k (fun i _ hi => if_neg fun h => hi ((hk i).1 h)) fun h => (h (Finset.mem_univ k)).elim]
  exact if_pos ((hk k).2 rfl)

/-- Where no position passes the test, the values that pass sum to zero. -/
theorem sum_none {n : ℕ} (P : Fin n → Prop) [DecidablePred P] (v : Fin n → BitVec 32) (hk : ∀ i, ¬ P i) :
    ((List.finRange n).map fun i => if P i then v i else 0).sum = 0 := by
  rw [← List.ofFn_eq_map, List.sum_ofFn]
  exact Finset.sum_eq_zero fun i _ => if_neg (hk i)

/-- Update `k` of a block of updates written at one start word lands at entry `e` exactly when the start, read signed, plus `k` is `e`. -/
theorem lands (idx : IVec S1 32) (k : Fin 15) (e : Fin 16) :
    scatter_S16_S1_S15_0_n_0_0.resultIdx? (ix1 k) idx = some (ix1 e) ↔ (idx (ix1 (0 : Fin 1))).toInt + (k.val : ℤ) = (e.val : ℤ) := by
  have hstart : scatter_S16_S1_S15_0_n_0_0.start (ix1 k) idx 0 = (idx (ix1 (0 : Fin 1))).toInt := by
    unfold ScatterDims.start
    rw [dif_pos (show (0 : Fin 1) ∈ scatter_S16_S1_S15_0_n_0_0.scatterDimsToOperandDims from List.mem_singleton.2 rfl)]
    refine congrArg (fun q => (idx q).toInt) (funext fun b => ?_)
    match b with
    | ⟨0, _⟩ => exact Subsingleton.elim (α := Fin 1) _ _
  have hwin : scatter_S16_S1_S15_0_n_0_0.window (ix1 k) 0 = k.val := by
    unfold ScatterDims.window
    rw [dif_pos (show (0 : Fin 1) ∈ scatter_S16_S1_S15_0_n_0_0.sKept from List.mem_singleton.2 rfl)]
    exact congrArg (fun t => ((ix1 k : S15.Idx) t).val) (Subsingleton.elim (α := Fin 1) _ 0)
  rw [resultIdx?_ix1, hstart, hwin]

/-- Fifteen words added into zeros from place 1: place 0 keeps its zero, place `k + 1` holds word `k`. -/
theorem shifted (z : IVec S16 32) (hz : ∀ i, z i = 0#32) (idx : IVec S1 32) (hidx : idx (ix1 (0 : Fin 1)) = 1#32) (u : IVec S15 32) (e : Fin 16) :
    Host.scatter scatter_S16_S1_S15_0_n_0_0 IntOp.addi z idx u (ix1 e) = if h : 1 ≤ e.val then u (ix1 ⟨e.val - 1, by omega⟩) else 0#32 := by
  have hl : ∀ k : Fin S15.numel, scatter_S16_S1_S15_0_n_0_0.resultIdx? (S15.rowMajor.symm k) idx = some (ix1 e) ↔ k.val + 1 = e.val := fun k => by
    rw [symm1, lands, hidx]
    show (1 : ℤ) + (k.val : ℤ) = (e.val : ℤ) ↔ _
    omega
  have hn : S15.numel = 15 := numel1 15
  rw [scatter_at, hz, foldl_if_add]
  refine (zero_add _).trans ?_
  by_cases h : 1 ≤ e.val
  · rw [dif_pos h, sum_one _ _ (⟨e.val - 1, by omega⟩ : Fin S15.numel) fun k => (hl k).trans ⟨fun q => Fin.ext (by show k.val = e.val - 1; omega), fun q => by
      subst q; show e.val - 1 + 1 = e.val; omega⟩, symm1]
    rfl
  · rw [dif_neg h]
    exact sum_none _ _ fun k q => by have := (hl k).1 q; omega

/-- The running sum of the lengths, as the reference computes it. -/
def scan (lens : IVec S16 32) : IVec S16 32 :=
  Host.reduceWindow IntOp.addi ![16] ![1] ![15] ![0] lens (broadcastInDim S_ ![] bcast_S_S_ (constantI S_ 32 0#32))
    reduceWindows_S16_S16_w16s1p15_0 h_S_

/-- Entry `j` of the running sum is where sequence `j + 1` begins. -/
theorem scan_apply (lens : IVec S16 32) (j : Fin 16) : scan lens (ix1 j) = start (word lens) (j.val + 1) := by
  rw [scan, cumsum_vec (Nm1 := 15) rfl lens _ rfl, sum_le_eq_start]

/-- The first fifteen entries of a vector of sixteen. -/
theorem prefix_apply (x : IVec S16 32) (k : Fin 15) : extractStridedSlice S15 ![0] x slices_S16_S15_0 (ix1 k) = x (ix1 (⟨k.val, by omega⟩ : Fin 16)) := by
  refine congrArg x (funext fun a => ?_)
  match a with
  | ⟨0, _⟩ => exact Fin.ext (Nat.zero_add _)

/-- The reference's starts of the sequences, as its operations compute them. -/
def starts (lens : IVec S16 32) : IVec S16 32 :=
  Host.scatter scatter_S16_S1_S15_0_n_0_0 IntOp.addi (broadcastInDim S16 ![] bcast_S_S16 (constantI S_ 32 0#32))
    (broadcastInDim S1 ![] bcast_S_S1 (constantI S_ 32 1#32)) (extractStridedSlice S15 ![0] (scan lens) slices_S16_S15_0)

/-- Entry `t` of the reference's starts is where sequence `t` begins. -/
theorem starts_apply (lens : IVec S16 32) (t : Fin 16) : starts lens (ix1 t) = start (word lens) t.val := by
  refine (shifted _ (fun _ => rfl) _ rfl _ t).trans ?_
  by_cases h : 1 ≤ t.val
  · rw [dif_pos h, prefix_apply, scan_apply]
    exact congrArg (start _) (Nat.sub_add_cancel h)
  · rw [dif_neg h, show t.val = 0 by omega]
    rfl

end Cert.Proof.Sums

end
-- ==== Proof.Take.lean ====
/-
  The reference's lookup of one row for each start, as its operations compute it: a start below zero counts from the
  array's end, a row outside the array reads as not-a-number, any other start reads its row. Where every start is a row
  of the array, the result's row `t` is the array's row at start `t`.
-/
module

public import proofs.«01_k».proof.Proof.Gen.ReferenceIdeal
public import Idealize.ShloMosaic.Lib.Routing.OpsOne
public import Idealize.ShloMosaic.Lib.ReduceAll
public import Idealize.ShloMosaic.Lib.WordCmp

@[expose] public section

noncomputable section

namespace Cert.Proof.Take

open Cert.ReferenceIdeal Cert.ReferenceIdeal.Gen
open Idealize.ShloMosaic Idealize.ShloMosaic.ValueIdx Idealize.ShloMosaic.Routing

variable {F : FTy → Type} [FloatOps F]

/-- The starts as row numbers in one column, a start below zero moved up by the number of rows. -/
def column (st : IVec S16 32) : IVec S16x1 32 :=
  broadcastInDim S16x1 ![0] bcast_S16_S16x1_0
    (select (cmpi .slt st (broadcastInDim S16 ![] bcast_S_S16 (constantI S_ 32 0#32)))
      (addi st (broadcastInDim S16 ![] bcast_S_S16 (constantI S_ 32 16384#32))) st)

/-- Which row numbers are rows of the array. -/
def inside (col : IVec S16x1 32) : IVec S16 1 :=
  Host.reduce IntOp.andi
    (andi (cmpi .sge col (broadcastInDim S16x1 ![] bcast_S_S16x1 (constantI S_ 32 0#32)))
      (cmpi .sle col (broadcastInDim S16x1 ![0, 1] bcast_S1x1_S16x1_0_1 (broadcastInDim S1x1 ![1] bcast_S1_S1x1_1 (constantI S1 32 16383#32)))))
    (constantI S_ 1 1#1) reducesTo_S16x1_S16_d1 h_S_

/-- The lookup: the array's row at each row number inside it, not-a-number elsewhere. -/
def take (hs : FVec F S16384x1024 .f32) (st : IVec S16 32) : FVec F S16x1024 .f32 :=
  select (broadcastInDim S16x1024 ![0] bcast_S16_S16x1024_0 (inside (column st)))
    (Host.gather gather_S16384x1024_S16x1_S16x1024_1_0_n_n_0_1_11024 hs (column st))
    (broadcastInDim S16x1024 ![] bcast_S_S16x1024 (constant S_ .f32 0x7FC00000#32))

/-- A start that is a row of the array is its own row number. -/
theorem column_apply (st : IVec S16 32) (hst : ∀ t : Fin 16, (st (ix1 t)).toNat < 16384) (i : S16x1.Idx) : column st i = st (ix1 (i 0)) := by
  have e : column st i = Scalar.select (IntOp.cmpi .slt (st (ix1 (i 0))) 0#32) (IntOp.addi (st (ix1 (i 0))) 16384#32) (st (ix1 (i 0))) := by
    refine congrArg (fun j => Scalar.select (IntOp.cmpi .slt (st j) 0#32) (IntOp.addi (st j) 16384#32) (st j)) (funext fun a => ?_)
    match a with
    | ⟨0, _⟩ => exact dif_neg (show ¬ (16 : ℕ) = 1 by decide)
  have h : (st (ix1 (i 0))).toNat < 2 ^ (32 - 1) := (hst (i 0)).trans (by decide)
  rw [e, wrap_of_lt _ _ h]

/-- Where every row number is a row of the array, the test of every one succeeds. -/
theorem inside_apply (col : IVec S16x1 32) (hcol : ∀ i, (col i).toNat < 16384) (j : S16.Idx) : inside col j = 1#1 := by
  refine Host.reduce_andi_one _ _ _ _ _ rfl fun i => ?_
  have h := hcol i
  show IntOp.andi (IntOp.cmpi .sge (col i) 0#32) (IntOp.cmpi .sle (col i) 16383#32) = 1#1
  rw [(StableHlo.Predicate.sge_iff_toNat (a := col i) (b := 0#32) (by omega) (by decide)).2 (Nat.zero_le _),
    (StableHlo.Predicate.sle_iff_toNat (a := col i) (b := 16383#32) (by omega) (by decide)).2 (by show (col i).toNat ≤ 16383; omega)]
  rfl

/-- Where every start is a row of the array, the lookup's row `t` is the array's row at start `t`. -/
theorem take_apply (hs : FVec F S16384x1024 .f32) (st : IVec S16 32) (hst : ∀ t : Fin 16, (st (ix1 t)).toNat < 16384) (i : S16x1024.Idx) :
    take hs st i = hs (ix2 (Fin.ofNat 16384 (st (ix1 (i 0))).toNat) (i 1)) := by
  have hcol : ∀ q, (column st q).toNat < 16384 := fun q => by rw [column_apply st hst]; exact hst _
  unfold take
  show Scalar.select _ _ _ = _
  rw [WordCmp.select_of_eq_one (by exact inside_apply _ hcol _)]
  obtain ⟨c, y, rfl⟩ : ∃ (c : Fin 16) (y : Fin 1024), i = ix2 c y := ⟨i 0, i 1, eq_ix2 i⟩
  refine gather_row gather_S16384x1024_S16x1_S16x1024_1_0_n_n_0_1_11024 rfl rfl rfl rfl rfl hs (column st) c y _ ?_ (by decide)
  rw [column_apply st hst]
  show st (ix1 c) = BitVec.ofNat 32 ((st (ix1 c)).toNat % 16384)
  rw [Nat.mod_eq_of_lt (hst c), BitVec.ofNat_toNat, BitVec.setWidth_eq]

end Cert.Proof.Take

end
-- ==== Proof.Value.lean ====
/-
  What the reference computes, all operations together: where every sequence begins inside the packed array, its result
  is the pooled array.
-/
module

public import proofs.«01_k».proof.Proof.Gen.ReferenceIdeal.Run
public import proofs.«01_k».proof.Proof.Sums
public import proofs.«01_k».proof.Proof.Take

@[expose] public section

noncomputable section

namespace Cert.Proof.Value

open Cert.ReferenceIdeal Cert.ReferenceIdeal.Gen Cert.Proof.Starts
open Idealize.ShloMosaic Idealize.ShloMosaic.TcCoe Idealize.ShloMosaic.ValueIdx

variable {F : FTy → Type} [FloatOps F]

/-- The reference's result is the lookup at the starts. -/
theorem result_eq_take (m : (ℓ : Loc nD τ sig) → Buf (Elt F) ℓ) (c : Dev nD) :
    Cert.ReferenceIdeal.Value.res_out0 m c
      = Take.take (m ((c.tc : Thread nD τ).loc main_arg0)) (Sums.starts (m ((c.tc : Thread nD τ).loc main_arg1))) := rfl

/-- The lookup at the starts is the pooled array, where every sequence begins inside the packed array. -/
theorem take_starts (hs : FVec F S16384x1024 .f32) (lens : IVec S16 32) (hw : InRange (word lens)) :
    Take.take hs (Sums.starts lens) = pooled hs (word lens) := by
  funext i
  exact (Take.take_apply hs _ (fun t => by rw [Sums.starts_apply]; exact hw t.val t.isLt) i).trans
    (congrArg (fun x : BitVec 32 => hs (ix2 (Fin.ofNat 16384 x.toNat) (i 1))) (Sums.starts_apply lens (i 0)))

end Cert.Proof.Value

end
-- ==== Proof.lean ====
/-
  The claims, put together. The kernel's text is the same in both of its readings, so its run is proved once, over any
  float values, and read at the machine's floats for the first frame and at extended reals for the second and for the
  value. The value is the pooled array: row `t` of the result is the packed array's row at which sequence `t` begins. The
  reference's operations compute the same array.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_lens_in_range
public import proofs.«01_k».proof.Proof.Gen.ReferenceIdeal.Run
public import proofs.«01_k».proof.Proof.Pre
public import proofs.«01_k».proof.Proof.Launch
public import proofs.«01_k».proof.Proof.Value
public import Idealize.ShloMosaic.Lib.Quiescent

@[expose] public section

noncomputable section

namespace Cert.Proof

open Idealize.ShloMosaic Idealize.ShloMosaic.TcCoe Idealize.SL.Sem

/-- The kernel at the machine's floats: every execution ends, nothing faulting, the arguments unchanged, every semaphore at zero. -/
theorem frame_kernel : Cert.quiescent_Kernel := fun m ρ h =>
  (θ_run Cert.KernelIdeal.defs _ _).mono (fun _ r => ⟨fun c => ⟨(r.1 c).1, (r.1 c).2.1⟩, r.2⟩)
    (Launch.run_main (F := Bits) m ρ fun d => Pre.inRange _ _ (h d))

/-- The same of the kernel at extended reals. -/
theorem frame_kernelIdeal : Cert.quiescent_KernelIdeal := fun m ρ h =>
  (θ_run Cert.KernelIdeal.defs _ _).mono (fun _ r => ⟨fun c => ⟨(r.1 c).1, (r.1 c).2.1⟩, r.2⟩)
    (Launch.run_main (F := Ideal) m ρ fun d => Pre.inRange _ _ (h d))

/-- The reference, from any arguments: every execution ends, nothing faulting, the arguments unchanged; it has no semaphore. -/
theorem frame_reference : Cert.quiescent_ReferenceIdeal := fun m ρ _ =>
  (θ_run Cert.ReferenceIdeal.defs _ _).mono (fun _ r => ⟨fun c => ⟨(r c).2.1, (r c).2.2⟩, sem_eq_zero_of_no_sems (by decide) _⟩)
    (Cert.ReferenceIdeal.Value.run m ρ)

/-- Kernel and reference at extended reals, from the same arguments: both end with the pooled array, on every device. -/
theorem values_agree : Cert.algebraic_KernelIdeal_ReferenceIdeal := fun m ρ m' ρ' h hm =>
  have hw : ∀ d, Starts.InRange (Launch.wordsOf m d) := fun d => Pre.inRange _ _ (h d)
  ⟨Launch.resultOf m,
    (θ_run Cert.KernelIdeal.defs _ _).mono (fun _ r c => ⟨(r.1 c).2.2, (r.1 c).1, (r.1 c).2.1⟩) (Launch.run_main (F := Ideal) m ρ hw),
    (θ_run Cert.ReferenceIdeal.defs _ _).mono (fun _ r c => ⟨by
      refine (r c).1.trans ((Value.result_eq_take m' c).trans ?_)
      rw [(hm c).1, (hm c).2]
      exact Value.take_starts _ _ (hw c), (r c).2.1, (r c).2.2⟩) (Cert.ReferenceIdeal.Value.run m' ρ')⟩

/-- Every claim, with the programs' side conditions. -/
theorem claim : Cert.Claim :=
  ⟨Cert.Kernel.Gen.facts, Cert.KernelIdeal.Gen.facts, Cert.ReferenceIdeal.Gen.facts, Cert.Pre_lens_in_range.Gen.facts,
    frame_kernel, frame_kernelIdeal, frame_reference, fun m ρ _ => frame_reference m ρ trivial, trivial, values_agree⟩

end Cert.Proof

end
